-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x2560 : Shape := ⟨3, ![6, 256, 2560]⟩
abbrev S6x256 : Shape := ⟨2, ![6, 256]⟩
abbrev S6912x2560 : Shape := ⟨2, ![6912, 2560]⟩
abbrev S6912x20 : Shape := ⟨2, ![6912, 20]⟩
abbrev S6x256x6912 : Shape := ⟨3, ![6, 256, 6912]⟩
abbrev S1536x2560 : Shape := ⟨2, ![1536, 2560]⟩
abbrev S1x1536 : Shape := ⟨2, ![1, 1536]⟩
abbrev S20x6912 : Shape := ⟨2, ![20, 6912]⟩
abbrev S1536x6912 : Shape := ⟨2, ![1536, 6912]⟩
abbrev S1x1 : Shape := ⟨2, ![1, 1]⟩
abbrev S256x2560 : Shape := ⟨2, ![256, 2560]⟩
abbrev S20x256 : Shape := ⟨2, ![20, 256]⟩
abbrev S1536x256 : Shape := ⟨2, ![1536, 256]⟩
abbrev S2560x1536 : Shape := ⟨2, ![2560, 1536]⟩
abbrev S1536x128 : Shape := ⟨2, ![1536, 128]⟩
abbrev S2560x256 : Shape := ⟨2, ![2560, 256]⟩
abbrev S8x256 : Shape := ⟨2, ![8, 256]⟩
abbrev S256x256 : Shape := ⟨2, ![256, 256]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S512x2560 : Shape := ⟨2, ![512, 2560]⟩
abbrev S512x256 : Shape := ⟨2, ![512, 256]⟩
abbrev S512x128 : Shape := ⟨2, ![512, 128]⟩
abbrev S64x8x256 : Shape := ⟨3, ![64, 8, 256]⟩
abbrev S512x1536 : Shape := ⟨2, ![512, 1536]⟩
abbrev S1x8x256 : Shape := ⟨3, ![1, 8, 256]⟩
abbrev S1 : Shape := ⟨1, ![1]⟩
abbrev S1x1x1 : Shape := ⟨3, ![1, 1, 1]⟩
abbrev S_ : Shape := ⟨0, ![]⟩

abbrev nBuf : Space → Nat
  | .hbm => 24
  | .vmem => 33
  | .smem => 1
  | _ => 0

abbrev bufTy : (tb : Table) → Fin (tcTables nBuf tb) → BufTy
  | .hbm, ⟨0, _⟩ => ⟨S6x256x2560, .fp8e4m3⟩
  | .hbm, ⟨1, _⟩ => ⟨S6x256, .f32⟩
  | .hbm, ⟨2, _⟩ => ⟨S6912x2560, .f32⟩
  | .hbm, ⟨3, _⟩ => ⟨S6912x20, .f32⟩
  | .hbm, ⟨4, _⟩ => ⟨S6912x20, .f32⟩
  | .hbm, ⟨5, _⟩ => ⟨S6x256x6912, .bf16⟩
  | .hbm, ⟨6, _⟩ => ⟨S1536x2560, .fp8e4m3⟩
  | .hbm, ⟨7, _⟩ => ⟨S1x1536, .f32⟩
  | .hbm, ⟨8, _⟩ => ⟨S20x6912, .f32⟩
  | .hbm, ⟨9, _⟩ => ⟨S20x6912, .f32⟩
  | .hbm, ⟨10, _⟩ => ⟨S20x6912, .f32⟩
  | .hbm, ⟨11, _⟩ => ⟨S20x6912, .f32⟩
  | .hbm, ⟨12, _⟩ => ⟨S1536x6912, .bf16⟩
  | .hbm, ⟨13, _⟩ => ⟨S20x6912, .f32⟩
  | .hbm, ⟨14, _⟩ => ⟨S20x6912, .f32⟩
  | .hbm, ⟨15, _⟩ => ⟨S1x1, .f32⟩
  | .hbm, ⟨16, _⟩ => ⟨S6912x2560, .i8⟩
  | .hbm, ⟨17, _⟩ => ⟨S20x6912, .f32⟩
  | .hbm, ⟨18, _⟩ => ⟨S20x6912, .f32⟩
  | .hbm, ⟨19, _⟩ => ⟨S6912x20, .f32⟩
  | .hbm, ⟨20, _⟩ => ⟨S6912x20, .f32⟩
  | .hbm, ⟨21, _⟩ => ⟨S_, .f32⟩
  | .hbm, ⟨22, _⟩ => ⟨S6912x20, .f32⟩
  | .hbm, ⟨23, _⟩ => ⟨S6912x20, .f32⟩
  | .local _ .vmem, ⟨0, _⟩ => ⟨S1536x2560, .fp8e4m3⟩
  | .local _ .vmem, ⟨1, _⟩ => ⟨S1x1536, .f32⟩
  | .local _ .vmem, ⟨2, _⟩ => ⟨S256x2560, .f32⟩
  | .local _ .vmem, ⟨3, _⟩ => ⟨S256x2560, .f32⟩
  | .local _ .vmem, ⟨4, _⟩ => ⟨S20x256, .f32⟩
  | .local _ .vmem, ⟨5, _⟩ => ⟨S20x256, .f32⟩
  | .local _ .vmem, ⟨6, _⟩ => ⟨S20x256, .f32⟩
  | .local _ .vmem, ⟨7, _⟩ => ⟨S20x256, .f32⟩
  | .local _ .vmem, ⟨8, _⟩ => ⟨S20x256, .f32⟩
  | .local _ .vmem, ⟨9, _⟩ => ⟨S20x256, .f32⟩
  | .local _ .vmem, ⟨10, _⟩ => ⟨S20x256, .f32⟩
  | .local _ .vmem, ⟨11, _⟩ => ⟨S20x256, .f32⟩
  | .local _ .vmem, ⟨12, _⟩ => ⟨S1536x256, .bf16⟩
  | .local _ .vmem, ⟨13, _⟩ => ⟨S1536x256, .bf16⟩
  | .local _ .vmem, ⟨14, _⟩ => ⟨S20x256, .f32⟩
  | .local _ .vmem, ⟨15, _⟩ => ⟨S20x256, .f32⟩
  | .local _ .vmem, ⟨16, _⟩ => ⟨S20x256, .f32⟩
  | .local _ .vmem, ⟨17, _⟩ => ⟨S20x256, .f32⟩
  | .local _ .vmem, ⟨18, _⟩ => ⟨S256x2560, .i8⟩
  | .local _ .vmem, ⟨19, _⟩ => ⟨S256x2560, .i8⟩
  | .local _ .vmem, ⟨20, _⟩ => ⟨S20x256, .f32⟩
  | .local _ .vmem, ⟨21, _⟩ => ⟨S20x256, .f32⟩
  | .local _ .vmem, ⟨22, _⟩ => ⟨S20x256, .f32⟩
  | .local _ .vmem, ⟨23, _⟩ => ⟨S20x256, .f32⟩
  | .local _ .vmem, ⟨24, _⟩ => ⟨S1536x2560, .bf16⟩
  | .local _ .vmem, ⟨25, _⟩ => ⟨S2560x1536, .bf16⟩
  | .local _ .vmem, ⟨26, _⟩ => ⟨S1536x128, .f32⟩
  | .local _ .vmem, ⟨27, _⟩ => ⟨S2560x256, .bf16⟩
  | .local _ .vmem, ⟨28, _⟩ => ⟨S2560x256, .f32⟩
  | .local _ .vmem, ⟨29, _⟩ => ⟨S20x256, .f32⟩
  | .local _ .vmem, ⟨30, _⟩ => ⟨S20x256, .f32⟩
  | .local _ .vmem, ⟨31, _⟩ => ⟨S1536x256, .bf16⟩
  | .local _ .vmem, ⟨32, _⟩ => ⟨S8x256, .f32⟩
  | .local _ .smem, ⟨0, _⟩ => ⟨S1x1, .f32⟩
  | _, _ => ⟨S6x256x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_stg10_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c27_i32 : BitVec 32 := 27#32
  let v6 : BitVec 1 := Scalar.cmpi .eq arg0 c27_i32
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

abbrev stage0_0 : Fin 1 → Memref sig .tc .vmem S1536x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S20x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S20x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2560 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S20x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S20x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S6x256x2560 : Shape := ⟨3, ![6, 256, 2560]⟩
abbrev S6x256 : Shape := ⟨2, ![6, 256]⟩
abbrev S6912x2560 : Shape := ⟨2, ![6912, 2560]⟩
abbrev S6912x20 : Shape := ⟨2, ![6912, 20]⟩
abbrev S6x256x6912 : Shape := ⟨3, ![6, 256, 6912]⟩
abbrev S1x1 : Shape := ⟨2, ![1, 1]⟩
abbrev S6912x20x128 : Shape := ⟨3, ![6912, 20, 128]⟩
abbrev S6912x20x1 : Shape := ⟨3, ![6912, 20, 1]⟩
abbrev S6x256x1 : Shape := ⟨3, ![6, 256, 1]⟩
abbrev S1x6x256x6912 : Shape := ⟨4, ![1, 6, 256, 6912]⟩
abbrev S1 : Shape := ⟨1, ![1]⟩
abbrev S1x1x1x1 : Shape := ⟨4, ![1, 1, 1, 1]⟩
abbrev S_ : Shape := ⟨0, ![]⟩

abbrev nBuf : Space → Nat
  | .hbm => 13
  | .vmem => 11
  | .smem => 1
  | _ => 0

abbrev bufTy : (tb : Table) → Fin (tcTables nBuf tb) → BufTy
  | .hbm, ⟨0, _⟩ => ⟨S6x256x2560, .fp8e4m3⟩
  | .hbm, ⟨1, _⟩ => ⟨S6x256, .f32⟩
  | .hbm, ⟨2, _⟩ => ⟨S6912x2560, .f32⟩
  | .hbm, ⟨3, _⟩ => ⟨S6912x20, .f32⟩
  | .hbm, ⟨4, _⟩ => ⟨S6912x20, .f32⟩
  | .hbm, ⟨5, _⟩ => ⟨S6x256x6912, .bf16⟩
  | .hbm, ⟨6, _⟩ => ⟨S6912x20, .f32⟩
  | .hbm, ⟨7, _⟩ => ⟨S6912x20, .f32⟩
  | .hbm, ⟨8, _⟩ => ⟨S1x1, .f32⟩
  | .hbm, ⟨9, _⟩ => ⟨S6912x2560, .i8⟩
  | .hbm, ⟨10, _⟩ => ⟨S6912x20, .f32⟩
  | .hbm, ⟨11, _⟩ => ⟨S6912x20, .f32⟩
  | .hbm, ⟨12, _⟩ => ⟨S_, .f32⟩
  | .local _ .vmem, ⟨0, _⟩ => ⟨S6x256x2560, .fp8e4m3⟩
  | .local _ .vmem, ⟨1, _⟩ => ⟨S6x256, .f32⟩
  | .local _ .vmem, ⟨2, _⟩ => ⟨S6912x2560, .f32⟩
  | .local _ .vmem, ⟨3, _⟩ => ⟨S6912x20, .f32⟩
  | .local _ .vmem, ⟨4, _⟩ => ⟨S6912x20, .f32⟩
  | .local _ .vmem, ⟨5, _⟩ => ⟨S6x256x6912, .bf16⟩
  | .local _ .vmem, ⟨6, _⟩ => ⟨S6912x20, .f32⟩
  | .local _ .vmem, ⟨7, _⟩ => ⟨S6912x20, .f32⟩
  | .local _ .vmem, ⟨8, _⟩ => ⟨S6912x2560, .i8⟩
  | .local _ .vmem, ⟨9, _⟩ => ⟨S6912x20, .f32⟩
  | .local _ .vmem, ⟨10, _⟩ => ⟨S6912x20, .f32⟩
  | .local _ .smem, ⟨0, _⟩ => ⟨S1x1, .f32⟩
  | _, _ => ⟨S6x256x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg8_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x256x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6912x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6912x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6912x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6912x2560 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6912x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6912x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Quant.lean ====
/- The quantiser of one weight, as functions of extended reals: `γ` and `β` are the clipping parameters of the weight's
   group, `M` and `N` the largest and the smallest weight of the group, and `w` the weight. -/
module

public import Idealize.ShloMosaic.Lib.Pointwise

@[expose] public section

set_option maxRecDepth 16384

noncomputable section

namespace Cert.Quant

open Idealize.ShloMosaic

/-- The largest code, 15. -/
def top : EReal := Ideal.ofBits FTy.f32 0x41700000#32

/-- The factor 2/N of the gradient, N the number of outputs. -/
def scale : EReal := Ideal.ofBits FTy.f32 0x344A4588#32

/-- The number N of outputs. -/
def count : EReal := Ideal.ofBits FTy.f32 0x4B220000#32

/-- Rounding to the nearest integer, ties to even. -/
def round (x : EReal) : EReal := Ideal.liftRound Ideal.roundHalfEven x

/-- The largest of a group's weights. -/
def largest (f : Fin 128 → EReal) : EReal := Finset.univ.fold max (Ideal.ofBits FTy.f32 0xFF800000#32) f

/-- The smallest of a group's weights. -/
def smallest (f : Fin 128 → EReal) : EReal := Finset.univ.fold min (Ideal.ofBits FTy.f32 0x7F800000#32) f

/-- The step, before a zero step is replaced. -/
def h0 (γ β M N : EReal) : EReal := Ideal.div (Ideal.logistic γ * M - Ideal.logistic β * N) top

/-- The step. -/
def h (γ β M N : EReal) : EReal := if h0 γ β M N = 0 then 1 else h0 γ β M N

/-- The zero point. -/
def z (γ β M N : EReal) : EReal := 0 - round (Ideal.div (Ideal.logistic β * N) (h γ β M N))

/-- The weight in units of the step. -/
def u (γ β M N w : EReal) : EReal := Ideal.div w (h γ β M N)

/-- The code before clipping. -/
def c (γ β M N w : EReal) : EReal := round (u γ β M N w) + z γ β M N

/-- The clipped code. -/
def q (γ β M N w : EReal) : EReal := min top (max 0 (c γ β M N w))

/-- The clipped code less the zero point. -/
def qz (γ β M N w : EReal) : EReal := q γ β M N w - z γ β M N

/-- The dequantised weight. -/
def what (γ β M N w : EReal) : EReal := qz γ β M N w * h γ β M N

/-- The derivative of the dequantised weight in the step. -/
def dw (γ β M N w : EReal) : EReal := qz γ β M N w - if q γ β M N w = c γ β M N w then u γ β M N w else 0

/-- The code as a byte, through 32 and 16 bits. -/
def code (γ β M N w : EReal) : BitVec 8 :=
  BitVec.setWidth 8 (BitVec.setWidth 16 (FloatOps.fptosi (F := Ideal) (φ := .f32) 32 (q γ β M N w)))

end Cert.Quant

end
-- ==== Proof.Group.lean ====
/- What the kernel computes for ONE group of 128 weights of each of the 256 output rows of a tile: the vector
   expressions of the quantiser, written once with the group's number as a variable, and the list of the twenty
   stores each buffer receives. -/
module

public import proofs.«01_k».proof.Proof.Gen.KernelIdeal.Skeleton
public import proofs.«01_k».proof.Proof.Quant
public import Idealize.ShloMosaic.Lib.Pointwise

@[expose] public section

set_option maxRecDepth 16384

noncomputable section

namespace Cert.Tile

open Cert.KernelIdeal Cert.KernelIdeal.Gen Idealize.ShloMosaic Idealize.SL.Sem

theorem sliceRow (g : Fin 20) : S20x256.Slices ![g.val, 0] S1x256 := by
  revert g; decide +kernel

theorem inbRow (g : Fin 20) : ∀ a, (![g.val, 0] : Fin 2 → ℕ) a + (![1, 256] : Fin 2 → ℕ) a ≤ S20x256.size a := by
  revert g; decide +kernel

theorem inbRows (g : Fin 20) : ∀ a, (![128 * g.val, 0] : Fin 2 → ℕ) a + (![128, 256] : Fin 2 → ℕ) a ≤ S2560x256.size a := by
  revert g; decide +kernel

theorem inbCols (g : Fin 20) : ∀ a, (![0, 128 * g.val] : Fin 2 → ℕ) a + (![256, 128] : Fin 2 → ℕ) a ≤ S256x2560.size a := by
  revert g; decide +kernel

/-- The logistic of a tile's clipping parameters. -/
def gSig (x : Vec Ideal S20x256 .f32) : FVec Ideal S20x256 .f32 :=
  logistic (shapeCast S20x256 x shapeCasts_S20x256_S20x256)

/-- The group's weights, one column for each output row. -/
def gW (v : Vec Ideal S256x128 .f32) : FVec Ideal S128x256 .f32 :=
  transpose S128x256 [1, 0] v transposes_S256x128_p1_0_S128x256

/-- The largest weight of the group. -/
def gMax (v : Vec Ideal S256x128 .f32) : FVec Ideal S1x256 .f32 :=
  shapeCast S1x256 (multiReduction .maximumf [0] S256 (gW v) 0xFF800000#32 reduces_S128x256_S256 (.inl rfl) rfl)
    shapeCasts_S256_S1x256

/-- The smallest weight of the group. -/
def gMin (v : Vec Ideal S256x128 .f32) : FVec Ideal S1x256 .f32 :=
  shapeCast S1x256 (multiReduction .minimumf [0] S256 (gW v) 0x7F800000#32 reduces_S128x256_S256 (.inl rfl) rfl)
    shapeCasts_S256_S1x256

/-- The lower clipping bound. -/
def gLo (b : FVec Ideal S20x256 .f32) (g : Fin 20) (v : Vec Ideal S256x128 .f32) : FVec Ideal S1x256 .f32 :=
  mulf (extractStridedSlice S1x256 ![g.val, 0] b (sliceRow g)) (gMin v)

/-- The step before a zero step is replaced by one. -/
def gH0 (a b : FVec Ideal S20x256 .f32) (g : Fin 20) (v : Vec Ideal S256x128 .f32) : FVec Ideal S1x256 .f32 :=
  divf (subf (mulf (extractStridedSlice S1x256 ![g.val, 0] a (sliceRow g)) (gMax v)) (gLo b g v))
    (broadcast S1x256 (Scalar.ofBits .f32 0x41700000#32))

/-- The quantisation step. -/
def gH (a b : FVec Ideal S20x256 .f32) (g : Fin 20) (v : Vec Ideal S256x128 .f32) : FVec Ideal S1x256 .f32 :=
  select (cmpf .oeq (gH0 a b g v) (broadcast S1x256 (Scalar.ofBits .f32 0x00000000#32)))
    (broadcast S1x256 (Scalar.ofBits .f32 0x3F800000#32)) (gH0 a b g v)

/-- The zero point. -/
def gZ (a b : FVec Ideal S20x256 .f32) (g : Fin 20) (v : Vec Ideal S256x128 .f32) : FVec Ideal S1x256 .f32 :=
  subf (broadcast S1x256 (Scalar.ofBits .f32 0x00000000#32)) (roundeven (divf (gLo b g v) (gH a b g v)))

/-- The weights in units of the step. -/
def gU (a b : FVec Ideal S20x256 .f32) (g : Fin 20) (v : Vec Ideal S256x128 .f32) : FVec Ideal S128x256 .f32 :=
  divf (gW v) (broadcastTo S128x256 (gH a b g v) broadcasts_S1x256_S128x256)

/-- The rounded weights moved by the zero point, before clipping. -/
def gC (a b : FVec Ideal S20x256 .f32) (g : Fin 20) (v : Vec Ideal S256x128 .f32) : FVec Ideal S128x256 .f32 :=
  addf (roundeven (gU a b g v)) (broadcastTo S128x256 (gZ a b g v) broadcasts_S1x256_S128x256)

/-- The clipped codes, as numbers. -/
def gQ (a b : FVec Ideal S20x256 .f32) (g : Fin 20) (v : Vec Ideal S256x128 .f32) : FVec Ideal S128x256 .f32 :=
  minimumf (broadcast S128x256 (Scalar.ofBits .f32 0x41700000#32))
    (maximumf (broadcast S128x256 (Scalar.ofBits .f32 0x00000000#32)) (gC a b g v))

/-- The codes less the zero point. -/
def gQZ (a b : FVec Ideal S20x256 .f32) (g : Fin 20) (v : Vec Ideal S256x128 .f32) : FVec Ideal S128x256 .f32 :=
  subf (gQ a b g v) (broadcastTo S128x256 (gZ a b g v) broadcasts_S1x256_S128x256)

/-- The dequantised weights. -/
def gWhat (a b : FVec Ideal S20x256 .f32) (g : Fin 20) (v : Vec Ideal S256x128 .f32) : FVec Ideal S128x256 .bf16 :=
  shapeCast S128x256 (truncf .bf16 (mulf (gQZ a b g v) (broadcastTo S128x256 (gH a b g v) broadcasts_S1x256_S128x256))
    bitsLt_bf16_f32) shapeCasts_S128x256_S128x256

/-- The derivative of the dequantised weights in the step. -/
def gDw (a b : FVec Ideal S20x256 .f32) (g : Fin 20) (v : Vec Ideal S256x128 .f32) : FVec Ideal S128x256 .f32 :=
  shapeCast S128x256 (subf (gQZ a b g v) (select (cmpf .oeq (gQ a b g v) (gC a b g v)) (gU a b g v)
    (broadcast S128x256 (Scalar.ofBits .f32 0x00000000#32)))) shapeCasts_S128x256_S128x256

/-- The codes as bytes, one row for each output row. -/
def gCodes (a b : FVec Ideal S20x256 .f32) (g : Fin 20) (v : Vec Ideal S256x128 .f32) : IVec S256x128 8 :=
  trunci 8 (transpose S256x128 [1, 0] (trunci 16 (fptosi 32 (gQ a b g v)) natLt_16_32) transposes_S128x256_p1_0_S256x128)
    natLt_8_16

/-- The groups' numbers, last first: the order in which the stores of a buffer are listed. -/
def groups : List (Fin 20) := [19, 18, 17, 16, 15, 14, 13, 12, 11, 10, 9, 8, 7, 6, 5, 4, 3, 2, 1, 0]

theorem mem_groups (g : Fin 20) : g ∈ groups := by revert g; decide +kernel

/-- Twenty stores of a row each. -/
def rowPieces (p : Fin 20 → FVec Ideal S1x256 .f32) : List (View.Piece (Elt Ideal) S20x256 .f32) :=
  groups.map fun g => ⟨Rect.unit (s := S20x256) ![g.val, 0] ![1, 256] (inbRow g), p g⟩

/-- Twenty stores of 128 rows each. -/
def bandPieces {e : EltTy} (p : Fin 20 → S128x256.Idx → Elt Ideal e) : List (View.Piece (Elt Ideal) S2560x256 e) :=
  groups.map fun g => ⟨Rect.unit (s := S2560x256) ![128 * g.val, 0] ![128, 256] (inbRows g), p g⟩

/-- Twenty stores of 128 columns each. -/
def stripPieces (p : Fin 20 → IVec S256x128 8) : List (View.Piece (Elt Ideal) S256x2560 .i8) :=
  groups.map fun g => ⟨Rect.unit (s := S256x2560) ![0, 128 * g.val] ![256, 128] (inbCols g), p g⟩

/-- A buffer whose stores are a list on which a function of the buffer's index agrees holds that function. -/
theorem read_pieces {sig : RefSig} {κ : Kind} {sp : Space} {s : Shape} {e : EltTy} (v : View sig κ sp s e)
    (f : v.ty.Contents (Elt Ideal)) (L L' : List (View.Piece (Elt Ideal) s e)) (hL : L = L') (G : s.Idx → Elt Ideal e)
    (hG : ∀ p ∈ L', ∀ x : p.1.shape.Idx, p.2 x = G (p.1.emb x)) (hc : ∀ y, ∃ p ∈ L, y ∈ p.1.set) :
    v.read (Elt Ideal) (v.writes (Elt Ideal) f L) = G := by
  subst hL
  exact funext fun y => View.read_writes_apply_of_pieces v f G L hG y (hc y)

/-! ## The expressions read at an index -/

section Read

variable (x y : Vec Ideal S20x256 .f32) (g : Fin 20) (v : Vec Ideal S256x128 .f32)

/-- The largest weight of the group in output row `o`. -/
theorem gMax_apply (r : Fin 1) (o : Fin 256) : gMax v (ix2 r o) = Quant.largest fun k => v (ix2 o k) := by
  pointwise [gMax, gW]; rfl

/-- The smallest weight of the group in output row `o`. -/
theorem gMin_apply (r : Fin 1) (o : Fin 256) : gMin v (ix2 r o) = Quant.smallest fun k => v (ix2 o k) := by
  pointwise [gMin, gW]; rfl

/-- The logistic function of a parameter. -/
theorem gSig_apply (o : Fin 256) : gSig x (ix2 g o) = Ideal.logistic (x (ix2 g o)) := by
  pointwise [gSig]

/-- The step of the group in output row `o`. -/
theorem gH_apply (r : Fin 1) (o : Fin 256) : gH (gSig x) (gSig y) g v (ix2 r o)
    = Quant.h (x (ix2 g o)) (y (ix2 g o)) (Quant.largest fun k => v (ix2 o k)) (Quant.smallest fun k => v (ix2 o k)) := by
  pointwise [gH, gH0, gLo, gSig_apply, gMin_apply, gMax_apply]; rfl

/-- The zero point of the group in output row `o`. -/
theorem gZ_apply (r : Fin 1) (o : Fin 256) : gZ (gSig x) (gSig y) g v (ix2 r o)
    = Quant.z (x (ix2 g o)) (y (ix2 g o)) (Quant.largest fun k => v (ix2 o k)) (Quant.smallest fun k => v (ix2 o k)) := by
  pointwise [gZ, gLo, gSig_apply, gMin_apply, gH_apply]; rfl

/-- A weight in units of the step. -/
theorem gU_apply (k : Fin 128) (o : Fin 256) : gU (gSig x) (gSig y) g v (ix2 k o)
    = Quant.u (x (ix2 g o)) (y (ix2 g o)) (Quant.largest fun k => v (ix2 o k)) (Quant.smallest fun k => v (ix2 o k)) (v (ix2 o k)) := by
  pointwise [gU, gW, gH_apply]; rfl

/-- A code before clipping. -/
theorem gC_apply (k : Fin 128) (o : Fin 256) : gC (gSig x) (gSig y) g v (ix2 k o)
    = Quant.c (x (ix2 g o)) (y (ix2 g o)) (Quant.largest fun k => v (ix2 o k)) (Quant.smallest fun k => v (ix2 o k)) (v (ix2 o k)) := by
  pointwise [gC, gU_apply, gZ_apply]; rfl

/-- A clipped code. -/
theorem gQ_apply (k : Fin 128) (o : Fin 256) : gQ (gSig x) (gSig y) g v (ix2 k o)
    = Quant.q (x (ix2 g o)) (y (ix2 g o)) (Quant.largest fun k => v (ix2 o k)) (Quant.smallest fun k => v (ix2 o k)) (v (ix2 o k)) := by
  pointwise [gQ, gC_apply]; rfl

/-- A dequantised weight. -/
theorem gWhat_apply (k : Fin 128) (o : Fin 256) : gWhat (gSig x) (gSig y) g v (ix2 k o)
    = Quant.what (x (ix2 g o)) (y (ix2 g o)) (Quant.largest fun k => v (ix2 o k)) (Quant.smallest fun k => v (ix2 o k)) (v (ix2 o k)) := by
  pointwise [gWhat, gQZ, gQ_apply, gZ_apply, gH_apply]; rfl

/-- The derivative of a dequantised weight in the step. -/
theorem gDw_apply (k : Fin 128) (o : Fin 256) : gDw (gSig x) (gSig y) g v (ix2 k o)
    = Quant.dw (x (ix2 g o)) (y (ix2 g o)) (Quant.largest fun k => v (ix2 o k)) (Quant.smallest fun k => v (ix2 o k)) (v (ix2 o k)) := by
  pointwise [gDw, gQZ, gQ_apply, gZ_apply, gC_apply, gU_apply]; rfl

/-- A code as a byte. -/
theorem gCodes_apply (k : Fin 128) (o : Fin 256) : gCodes (gSig x) (gSig y) g v (ix2 o k)
    = Quant.code (x (ix2 g o)) (y (ix2 g o)) (Quant.largest fun k => v (ix2 o k)) (Quant.smallest fun k => v (ix2 o k)) (v (ix2 o k)) := by
  pointwise [gCodes, gQ_apply]; rfl

end Read

end Cert.Tile

end
-- ==== Proof.Fill.lean ====
/- What each of the quantiser's buffers holds after the twenty stores into it, as a function of the tile's weights and
   of the tile's clipping parameters. -/
module

public import proofs.«01_k».proof.Proof.Group
public import Idealize.ShloMosaic.Lib.Pipeline.ValueKit

@[expose] public section

set_option maxRecDepth 16384

noncomputable section

namespace Cert.Tile

open Cert.KernelIdeal Cert.KernelIdeal.Gen Idealize.ShloMosaic Idealize.SL.Sem

/-- Column `k` of group `g`. -/
def col (g : Fin 20) (k : Fin 128) : Fin 2560 := ⟨128 * g.val + k.val, by omega⟩

/-- The group of a column. -/
def grp (d : Fin 2560) : Fin 20 := ⟨d.val / 128, by omega⟩

theorem grp_col (g : Fin 20) (k : Fin 128) : grp (col g k) = g := Fin.ext (by simp only [grp, col]; omega)

variable (w : Vec Ideal S256x2560 .f32) (x y : Vec Ideal S20x256 .f32)

/-- The largest weight of each group of a tile. -/
def maxT : Fin 20 → Fin 256 → EReal := fun g o => Quant.largest fun k => w (ix2 o (col g k))

/-- The smallest weight of each group of a tile. -/
def minT : Fin 20 → Fin 256 → EReal := fun g o => Quant.smallest fun k => w (ix2 o (col g k))

/-- The steps of a tile. -/
def hT : Fin 20 → Fin 256 → EReal := fun g o => Quant.h (x (ix2 g o)) (y (ix2 g o)) (maxT w g o) (minT w g o)

/-- The zero points of a tile. -/
def zT : Fin 20 → Fin 256 → EReal := fun g o => Quant.z (x (ix2 g o)) (y (ix2 g o)) (maxT w g o) (minT w g o)

/-- The dequantised weights of a tile. -/
def whatT : Fin 2560 → Fin 256 → EReal := fun d o =>
  Quant.what (x (ix2 (grp d) o)) (y (ix2 (grp d) o)) (maxT w (grp d) o) (minT w (grp d) o) (w (ix2 o d))

/-- The derivatives of the dequantised weights of a tile. -/
def dwT : Fin 2560 → Fin 256 → EReal := fun d o =>
  Quant.dw (x (ix2 (grp d) o)) (y (ix2 (grp d) o)) (maxT w (grp d) o) (minT w (grp d) o) (w (ix2 o d))

/-- The codes of a tile. -/
def codesT : Fin 256 → Fin 2560 → BitVec 8 := fun o d =>
  Quant.code (x (ix2 (grp d) o)) (y (ix2 (grp d) o)) (maxT w (grp d) o) (minT w (grp d) o) (w (ix2 o d))

/-- A function of a row and a column as an array. -/
abbrev arr2 {α : Type} {n0 n1 : ℕ} (f : Fin n0 → Fin n1 → α) : (⟨2, ![n0, n1]⟩ : Shape).Idx → α := fun j => f (j 0) (j 1)

/-- Group `g`'s columns of the weight tile, as loaded. -/
def rdW (m : Memref sig .tc .vmem S256x2560 .f32) (h : m.IsWhole) (g : Fin 20) : Vec Ideal S256x128 .f32 :=
  View.readAt (Elt Ideal) m.view (Rect.unit (s := S256x2560) ![0, 128 * g.val] ![256, 128] (inbCols g)).toLoadRect (h.unread w)

/-- A parameter tile, as loaded. -/
def rdG (m : Memref sig .tc .vmem S20x256 .f32) (h : m.IsWhole) (x : Vec Ideal S20x256 .f32) : Vec Ideal S20x256 .f32 :=
  View.readAt (Elt Ideal) m.view (Rect.unit (s := S20x256) ![0, 0] S20x256.size inb_S20x256_S20x256_0_0).toLoadRect (h.unread x)

theorem rdG_eq (m : Memref sig .tc .vmem S20x256 .f32) (h : m.IsWhole) (x : Vec Ideal S20x256 .f32) : rdG m h x = x := by
  unfold rdG
  rw [View.readAt_eq_ld, Memref.IsWhole.read_unread]
  exact View.ld_unit_lit _ _ (by decide)

theorem rdW_apply (m : Memref sig .tc .vmem S256x2560 .f32) (h : m.IsWhole) (g : Fin 20) (o : Fin 256) (k : Fin 128) :
    rdW w m h g (ix2 o k) = w (ix2 o (col g k)) := by
  unfold rdW
  rw [View.readAt_eq_ld, Memref.IsWhole.read_unread]
  pointwise [col]

variable (m3 : Memref sig .tc .vmem S256x2560 .f32) (h3 : m3.IsWhole)
  (m4 : Memref sig .tc .vmem S20x256 .f32) (h4 : m4.IsWhole) (m5 : Memref sig .tc .vmem S20x256 .f32) (h5 : m5.IsWhole)

/-- The index of an entry of a rectangle. -/
theorem emb_unit2 {n0 n1 s0 s1 o0 o1 : ℕ} (inb : ∀ a, (![o0, o1] : Fin 2 → ℕ) a + (![s0, s1] : Fin 2 → ℕ) a ≤ (![n0, n1] : Fin 2 → ℕ) a)
    (a : Fin s0) (b : Fin s1) (i : Fin n0) (j : Fin n1) (hi : i.val = o0 + a.val) (hj : j.val = o1 + b.val) :
    (Rect.unit (s := (⟨2, ![n0, n1]⟩ : Shape)) ![o0, o1] ![s0, s1] inb).emb (ix2 a b) = ix2 i j := by
  funext c
  refine Fin.ext ?_
  match c with
  | 0 => show o0 + 1 * a.val = i.val; omega
  | 1 => show o1 + 1 * b.val = j.val; omega

/-- The index of the entry `(r, o)` of the row stored for group `g`. -/
theorem emb_row (g : Fin 20) (r : Fin 1) (o : Fin 256) :
    (Rect.unit (s := S20x256) ![g.val, 0] ![1, 256] (inbRow g)).emb (ix2 r o) = ix2 g o :=
  emb_unit2 _ r o g o (by omega) (by omega)

/-- The index of the entry `(k, o)` of the band stored for group `g`. -/
theorem emb_band (g : Fin 20) (k : Fin 128) (o : Fin 256) :
    (Rect.unit (s := S2560x256) ![128 * g.val, 0] ![128, 256] (inbRows g)).emb (ix2 k o) = ix2 (col g k) o :=
  emb_unit2 _ k o (col g k) o rfl (by omega)

/-- The index of the entry `(o, k)` of the strip stored for group `g`. -/
theorem emb_strip (g : Fin 20) (o : Fin 256) (k : Fin 128) :
    (Rect.unit (s := S256x2560) ![0, 128 * g.val] ![256, 128] (inbCols g)).emb (ix2 o k) = ix2 o (col g k) :=
  emb_unit2 _ o k o (col g k) (by omega) rfl

/-- Rows agree with an array when each of them does. -/
theorem rows_agree (p : Fin 20 → FVec Ideal S1x256 .f32) (f : Fin 20 → Fin 256 → EReal)
    (hp : ∀ g r o, p g (ix2 r o) = f g o) : ∀ q ∈ rowPieces p, ∀ j : q.1.shape.Idx, q.2 j = arr2 f (q.1.emb j) := by
  intro q hq j
  obtain ⟨g, -, rfl⟩ := List.mem_map.1 hq
  obtain ⟨r, o, rfl⟩ : ∃ (r : Fin 1) (o : Fin 256), j = ix2 r o := ⟨j 0, j 1, eq_ix2 (n0 := 1) (n1 := 256) j⟩
  rw [emb_row]
  exact hp g r o

/-- Bands agree with an array when each of them does. -/
theorem bands_agree {e : EltTy} (p : Fin 20 → S128x256.Idx → Elt Ideal e) (f : Fin 2560 → Fin 256 → Elt Ideal e)
    (hp : ∀ g k o, p g (ix2 k o) = f (col g k) o) : ∀ q ∈ bandPieces p, ∀ j : q.1.shape.Idx, q.2 j = arr2 f (q.1.emb j) := by
  intro q hq j
  obtain ⟨g, -, rfl⟩ := List.mem_map.1 hq
  obtain ⟨k, o, rfl⟩ : ∃ (k : Fin 128) (o : Fin 256), j = ix2 k o := ⟨j 0, j 1, eq_ix2 (n0 := 128) (n1 := 256) j⟩
  rw [emb_band]
  exact hp g k o

/-- Strips agree with an array when each of them does. -/
theorem strips_agree (p : Fin 20 → IVec S256x128 8) (f : Fin 256 → Fin 2560 → BitVec 8)
    (hp : ∀ g o k, p g (ix2 o k) = f o (col g k)) : ∀ q ∈ stripPieces p, ∀ j : q.1.shape.Idx, q.2 j = arr2 f (q.1.emb j) := by
  intro q hq j
  obtain ⟨g, -, rfl⟩ := List.mem_map.1 hq
  obtain ⟨o, k, rfl⟩ : ∃ (o : Fin 256) (k : Fin 128), j = ix2 o k := ⟨j 0, j 1, eq_ix2 (n0 := 256) (n1 := 128) j⟩
  rw [emb_strip]
  exact hp g o k

/-- The rows stored into the buffer of steps. -/
def pH := rowPieces fun g => gH (gSig (rdG m4 h4 x)) (gSig (rdG m5 h5 y)) g (rdW w m3 h3 g)
/-- The rows stored into the buffer of zero points. -/
def pZ := rowPieces fun g => gZ (gSig (rdG m4 h4 x)) (gSig (rdG m5 h5 y)) g (rdW w m3 h3 g)
/-- The rows stored into the buffer of largest weights. -/
def pMax := rowPieces fun g => shapeCast S1x256 (gMax (rdW w m3 h3 g)) shapeCasts_S1x256_S1x256
/-- The rows stored into the buffer of smallest weights. -/
def pMin := rowPieces fun g => shapeCast S1x256 (gMin (rdW w m3 h3 g)) shapeCasts_S1x256_S1x256
/-- The bands stored into the buffer of dequantised weights. -/
def pWhat := bandPieces (e := .bf16) fun g => gWhat (gSig (rdG m4 h4 x)) (gSig (rdG m5 h5 y)) g (rdW w m3 h3 g)
/-- The bands stored into the buffer of derivatives. -/
def pDw := bandPieces (e := .f32) fun g => gDw (gSig (rdG m4 h4 x)) (gSig (rdG m5 h5 y)) g (rdW w m3 h3 g)
/-- The strips stored into the buffer of codes. -/
def pCodes := stripPieces fun g => gCodes (gSig (rdG m4 h4 x)) (gSig (rdG m5 h5 y)) g (rdW w m3 h3 g)

theorem pH_agree : ∀ q ∈ pH w x y m3 h3 m4 h4 m5 h5, ∀ j : q.1.shape.Idx, q.2 j = arr2 (hT w x y) (q.1.emb j) :=
  rows_agree _ _ fun g r o => by rw [gH_apply]; simp only [rdG_eq, rdW_apply]; rfl

theorem pZ_agree : ∀ q ∈ pZ w x y m3 h3 m4 h4 m5 h5, ∀ j : q.1.shape.Idx, q.2 j = arr2 (zT w x y) (q.1.emb j) :=
  rows_agree _ _ fun g r o => by rw [gZ_apply]; simp only [rdG_eq, rdW_apply]; rfl

theorem pMax_agree : ∀ q ∈ pMax w m3 h3, ∀ j : q.1.shape.Idx, q.2 j = arr2 (maxT w) (q.1.emb j) :=
  rows_agree _ _ fun g r o => by rw [shapeCast_self, gMax_apply]; simp only [rdW_apply]; rfl

theorem pMin_agree : ∀ q ∈ pMin w m3 h3, ∀ j : q.1.shape.Idx, q.2 j = arr2 (minT w) (q.1.emb j) :=
  rows_agree _ _ fun g r o => by rw [shapeCast_self, gMin_apply]; simp only [rdW_apply]; rfl

theorem pWhat_agree : ∀ q ∈ pWhat w x y m3 h3 m4 h4 m5 h5, ∀ j : q.1.shape.Idx, q.2 j = arr2 (whatT w x y) (q.1.emb j) :=
  bands_agree _ _ fun g k o => by rw [gWhat_apply]; simp only [rdG_eq, rdW_apply, whatT, grp_col]; rfl

theorem pDw_agree : ∀ q ∈ pDw w x y m3 h3 m4 h4 m5 h5, ∀ j : q.1.shape.Idx, q.2 j = arr2 (dwT w x y) (q.1.emb j) :=
  bands_agree _ _ fun g k o => by rw [gDw_apply]; simp only [rdG_eq, rdW_apply, dwT, grp_col]; rfl

theorem pCodes_agree : ∀ q ∈ pCodes w x y m3 h3 m4 h4 m5 h5, ∀ j : q.1.shape.Idx, q.2 j = arr2 (codesT w x y) (q.1.emb j) :=
  strips_agree _ _ fun g o k => by rw [gCodes_apply]; simp only [rdG_eq, rdW_apply, codesT, grp_col]; rfl

end Cert.Tile

end
-- ==== Proof.Prep.lean ====
/- What the first grid step prepares: the codes of x as numbers, the same transposed, and the tokens' scales along the
   lanes. -/
module

public import proofs.«01_k».proof.Proof.Fill
public import proofs.«01_k».proof.Proof.Gen.KernelIdeal.Frame.Runs

@[expose] public section

set_option maxRecDepth 16384

noncomputable section

namespace Cert.Tile

open Cert.KernelIdeal Cert.KernelIdeal.Gen Idealize.ShloMosaic Idealize.SL.Sem

theorem inbX (t : Fin 6) : ∀ a, (![256 * t.val, 0] : Fin 2 → ℕ) a + (![256, 2560] : Fin 2 → ℕ) a ≤ S1536x2560.size a := by
  revert t; decide +kernel

theorem inbXt (t : Fin 6) (d : Fin 10) : ∀ a, (![256 * d.val, 256 * t.val] : Fin 2 → ℕ) a + (![256, 256] : Fin 2 → ℕ) a ≤ S2560x1536.size a := by
  revert t d; decide +kernel

theorem inbSr (t : Fin 12) : ∀ a, (![128 * t.val, 0] : Fin 2 → ℕ) a + (![128, 128] : Fin 2 → ℕ) a ≤ S1536x128.size a := by
  revert t; decide +kernel

theorem inbSc (t : Fin 12) : ∀ a, (![0, 128 * t.val] : Fin 2 → ℕ) a + (![1, 128] : Fin 2 → ℕ) a ≤ S1x1536.size a := by
  revert t; decide +kernel

theorem sliceX (d : Fin 10) : S256x2560.Slices ![0, 256 * d.val] S256x256 := by
  revert d; decide +kernel

/-- A load of a rectangle of a whole buffer reads the buffer at the rectangle's indices. -/
theorem load2 {κ : Kind} {sp : Space} {e : EltTy} {n0 n1 s0 s1 o0 o1 : ℕ} (m : Memref sig κ sp (⟨2, ![n0, n1]⟩ : Shape) e) (h : m.IsWhole)
    (x : Vec Ideal (⟨2, ![n0, n1]⟩ : Shape) e) (inb : ∀ a, (![o0, o1] : Fin 2 → ℕ) a + (![s0, s1] : Fin 2 → ℕ) a ≤ (![n0, n1] : Fin 2 → ℕ) a)
    (a : Fin s0) (b : Fin s1) (i : Fin n0) (j : Fin n1) (hi : i.val = o0 + a.val) (hj : j.val = o1 + b.val) :
    View.readAt (Elt Ideal) m.view (Rect.unit (s := (⟨2, ![n0, n1]⟩ : Shape)) ![o0, o1] ![s0, s1] inb).toLoadRect (h.unread x) (ix2 a b) = x (ix2 i j) := by
  rw [View.readAt_eq_ld, Memref.IsWhole.read_unread]
  exact congrArg x (emb_unit2 inb a b i j hi hj)

/-- A store agrees with an array when its payload does at every entry. -/
theorem agree2 {e : EltTy} {n0 n1 s0 s1 o0 o1 : ℕ} (inb : ∀ a, (![o0, o1] : Fin 2 → ℕ) a + (![s0, s1] : Fin 2 → ℕ) a ≤ (![n0, n1] : Fin 2 → ℕ) a)
    (w : (⟨2, ![s0, s1]⟩ : Shape).Idx → Elt Ideal e) (f : Fin n0 → Fin n1 → Elt Ideal e) (i : Fin s0 → Fin n0) (j : Fin s1 → Fin n1)
    (hi : ∀ a, (i a).val = o0 + a.val) (hj : ∀ b, (j b).val = o1 + b.val) (H : ∀ a b, w (ix2 a b) = f (i a) (j b))
    (k : (Rect.unit (s := (⟨2, ![n0, n1]⟩ : Shape)) ![o0, o1] ![s0, s1] inb).shape.Idx) :
    w k = arr2 f ((Rect.unit (s := (⟨2, ![n0, n1]⟩ : Shape)) ![o0, o1] ![s0, s1] inb).emb k) := by
  obtain ⟨a, b, rfl⟩ : ∃ (a : Fin s0) (b : Fin s1), k = ix2 a b := ⟨k 0, k 1, eq_ix2 (n0 := s0) (n1 := s1) k⟩
  rw [emb_unit2 inb a b (i a) (j b) (hi a) (hj b)]
  exact H a b

/-- Row block `t` of the codes of x, as loaded. -/
def rdX0 (m : Memref sig .tc .vmem S1536x2560 .fp8e4m3) (h : m.IsWhole) (x : Vec Ideal S1536x2560 .fp8e4m3) (t : Fin 6) : Vec Ideal S256x2560 .fp8e4m3 :=
  View.readAt (Elt Ideal) m.view (Rect.unit (s := S1536x2560) ![256 * t.val, 0] ![256, 2560] (inbX t)).toLoadRect (h.unread x)

/-- Block `t` of the tokens' scales, as loaded. -/
def rdSc (m : Memref sig .tc .vmem S1x1536 .f32) (h : m.IsWhole) (x : Vec Ideal S1x1536 .f32) (t : Fin 12) : Vec Ideal S1x128 .f32 :=
  View.readAt (Elt Ideal) m.view (Rect.unit (s := S1x1536) ![0, 128 * t.val] ![1, 128] (inbSc t)).toLoadRect (h.unread x)

/-- A 256x256 block of a row block, transposed. -/
def xtV (v : Vec Ideal S256x2560 .fp8e4m3) (d : Fin 10) : FVec Ideal S256x256 .bf16 :=
  shapeCast S256x256 (transpose S256x256 [1, 0] (extractStridedSlice S256x256 ![0, 256 * d.val] (k0_pay3 (F := Ideal) v) (sliceX d))
    transposes_S256x256_p1_0_S256x256) shapeCasts_S256x256_S256x256

theorem xbV_apply (v : Vec Ideal S256x2560 .fp8e4m3) (a : Fin 256) (b : Fin 2560) : k0_pay4 (F := Ideal) v (ix2 a b) = v (ix2 a b) := by
  pointwise [k0_pay4, k0_pay3]

theorem xtV_apply (v : Vec Ideal S256x2560 .fp8e4m3) (d : Fin 10) (a b : Fin 256) :
    xtV v d (ix2 a b) = v (ix2 b ⟨256 * d.val + a.val, by omega⟩) := by
  pointwise [xtV, k0_pay3]

theorem srV_apply (v : Vec Ideal S1x128 .f32) (a b : Fin 128) : k0_pay88 (F := Ideal) v (ix2 a b) = v (ix2 0 a) := by
  pointwise [k0_pay88]

variable (m1 : Memref sig .tc .vmem S1536x2560 .fp8e4m3) (h1 : m1.IsWhole) (x0 : Vec Ideal S1536x2560 .fp8e4m3)
  (m2 : Memref sig .tc .vmem S1x1536 .f32) (h2 : m2.IsWhole) (x1 : Vec Ideal S1x1536 .f32)

/-- The row blocks stored into the buffer of x. -/
def pXb : List (View.Piece (Elt Ideal) S1536x2560 .bf16) :=
  ([5, 4, 3, 2, 1, 0] : List (Fin 6)).map fun t =>
    ⟨Rect.unit (s := S1536x2560) ![256 * t.val, 0] ![256, 2560] (inbX t), k0_pay4 (F := Ideal) (rdX0 m1 h1 x0 t)⟩

/-- The blocks stored into the buffer of x transposed. -/
def pXt : List (View.Piece (Elt Ideal) S2560x1536 .bf16) :=
  ([5, 4, 3, 2, 1, 0] : List (Fin 6)).flatMap fun t => ([9, 8, 7, 6, 5, 4, 3, 2, 1, 0] : List (Fin 10)).map fun d =>
    ⟨Rect.unit (s := S2560x1536) ![256 * d.val, 256 * t.val] ![256, 256] (inbXt t d), xtV (rdX0 m1 h1 x0 t) d⟩

/-- The blocks stored into the buffer of scales. -/
def pSr : List (View.Piece (Elt Ideal) S1536x128 .f32) :=
  ([11, 10, 9, 8, 7, 6, 5, 4, 3, 2, 1, 0] : List (Fin 12)).map fun t =>
    ⟨Rect.unit (s := S1536x128) ![128 * t.val, 0] ![128, 128] (inbSr t), k0_pay88 (F := Ideal) (rdSc m2 h2 x1 t)⟩

/-- The codes of x as numbers. -/
def xbT : Fin 1536 → Fin 2560 → EReal := fun t d => x0 (ix2 t d)
/-- The codes of x as numbers, transposed. -/
def xtT : Fin 2560 → Fin 1536 → EReal := fun d t => x0 (ix2 t d)
/-- The tokens' scales along the lanes. -/
def srT : Fin 1536 → Fin 128 → EReal := fun t _ => x1 (ix2 0 t)

theorem xb_entry (t : Fin 6) (a : Fin 256) (b : Fin 2560) :
    k0_pay4 (F := Ideal) (rdX0 m1 h1 x0 t) (ix2 a b) = xbT x0 ⟨256 * t.val + a.val, by omega⟩ b :=
  (xbV_apply _ a b).trans (load2 m1 h1 x0 (inbX t) a b _ b rfl (Nat.zero_add _).symm)

theorem xb_piece (t : Fin 6) (j) : k0_pay4 (F := Ideal) (rdX0 m1 h1 x0 t) j
    = arr2 (xbT x0) ((Rect.unit (s := S1536x2560) ![256 * t.val, 0] ![256, 2560] (inbX t)).emb j) :=
  agree2 (e := .bf16) (inbX t) _ (xbT x0) (fun a => ⟨256 * t.val + a.val, by omega⟩) id (fun _ => rfl) (fun _ => (Nat.zero_add _).symm)
    (xb_entry m1 h1 x0 t) j

theorem pXb_agree : ∀ q ∈ pXb m1 h1 x0, ∀ j : q.1.shape.Idx, q.2 j = arr2 (xbT x0) (q.1.emb j) := by
  intro q hq
  obtain ⟨t, -, rfl⟩ := List.mem_map.1 hq
  exact xb_piece m1 h1 x0 t

theorem xt_entry (t : Fin 6) (d : Fin 10) (a b : Fin 256) :
    xtV (rdX0 m1 h1 x0 t) d (ix2 a b) = xtT x0 ⟨256 * d.val + a.val, by omega⟩ ⟨256 * t.val + b.val, by omega⟩ :=
  (xtV_apply _ d a b).trans (load2 m1 h1 x0 (inbX t) b _ _ _ rfl (Nat.zero_add _).symm)

theorem xt_piece (t : Fin 6) (d : Fin 10) (j) : xtV (rdX0 m1 h1 x0 t) d j
    = arr2 (xtT x0) ((Rect.unit (s := S2560x1536) ![256 * d.val, 256 * t.val] ![256, 256] (inbXt t d)).emb j) :=
  agree2 (e := .bf16) (inbXt t d) _ (xtT x0) (fun a => ⟨256 * d.val + a.val, by omega⟩) (fun b => ⟨256 * t.val + b.val, by omega⟩)
    (fun _ => rfl) (fun _ => rfl) (xt_entry m1 h1 x0 t d) j

theorem pXt_agree : ∀ q ∈ pXt m1 h1 x0, ∀ j : q.1.shape.Idx, q.2 j = arr2 (xtT x0) (q.1.emb j) := by
  intro q hq
  obtain ⟨t, -, hq⟩ := List.mem_flatMap.1 hq
  obtain ⟨d, -, rfl⟩ := List.mem_map.1 hq
  exact xt_piece m1 h1 x0 t d

theorem pSr_agree : ∀ q ∈ pSr m2 h2 x1, ∀ j : q.1.shape.Idx, q.2 j = arr2 (srT x1) (q.1.emb j) := by
  intro q hq
  obtain ⟨t, -, rfl⟩ := List.mem_map.1 hq
  refine agree2 (e := .f32) (inbSr t) _ (srT x1) (fun a => ⟨128 * t.val + a.val, by omega⟩) id (fun _ => rfl) (fun _ => (Nat.zero_add _).symm) ?_
  exact fun a b => (srV_apply _ a b).trans (load2 m2 h2 x1 (inbSc t) (0 : Fin 1) a (0 : Fin 1) _ rfl rfl)

end Cert.Tile

end
-- ==== Proof.Pass.lean ====
/- What one grid step makes of the tile before: the errors of the tile's outputs, their squares added into the accumulator,
   and the two gradients. -/
module

public import proofs.«01_k».proof.Proof.Prep
public import proofs.«01_k».proof.Proof.Gen.KernelIdeal.Frame.Runs

@[expose] public section

set_option maxRecDepth 16384

noncomputable section

namespace Cert.Tile

open Cert.KernelIdeal Cert.KernelIdeal.Gen Idealize.ShloMosaic Idealize.SL.Sem

theorem inbX3 (t : Fin 3) : ∀ a, (![512 * t.val, 0] : Fin 2 → ℕ) a + (![512, 2560] : Fin 2 → ℕ) a ≤ S1536x2560.size a := by
  revert t; decide +kernel

theorem inbS3 (t : Fin 3) : ∀ a, (![512 * t.val, 0] : Fin 2 → ℕ) a + (![512, 128] : Fin 2 → ℕ) a ≤ S1536x128.size a := by
  revert t; decide +kernel

theorem inbY3 (t : Fin 3) : ∀ a, (![512 * t.val, 0] : Fin 2 → ℕ) a + (![512, 256] : Fin 2 → ℕ) a ≤ S1536x256.size a := by
  revert t; decide +kernel

theorem inbXt5 (t : Fin 20) : ∀ a, (![512 * (t.val / 4), 0] : Fin 2 → ℕ) a + (![512, 1536] : Fin 2 → ℕ) a ≤ S2560x1536.size a := by
  revert t; decide +kernel

theorem slice4 (g : Fin 20) : S512x256.Slices ![128 * (g.val % 4), 0] S128x256 := by
  revert g; decide +kernel

/-- The lane of an output. -/
def lane (o : Fin 256) : Fin 128 := ⟨o.val % 128, by omega⟩

/-- Token `b` of chunk `t`. -/
def tok (t : Fin 3) (b : Fin 512) : Fin 1536 := ⟨512 * t.val + b.val, by omega⟩

section Target

variable (xb : Vec Ideal S1536x2560 .bf16) (sr : Vec Ideal S1536x128 .f32) (wh : Vec Ideal S2560x256 .bf16) (y : Vec Ideal S1536x256 .bf16)

/-- The errors of a tile's outputs. -/
def errT : Fin 1536 → Fin 256 → EReal := fun t o => (∑ d, xb (ix2 t d) * wh (ix2 d o)) * sr (ix2 t (lane o)) - y (ix2 t o)

/-- The errors times the tokens' scales. -/
def eT : Fin 1536 → Fin 256 → EReal := fun t o => errT xb sr wh y t o * sr (ix2 t (lane o))

/-- The squares of a chunk's errors, folded onto eight rows. -/
def sqT (t : Fin 3) : Fin 8 → Fin 256 → EReal := fun r o =>
  ∑ b : Fin 64, errT xb sr wh y (tok t ⟨b.val * 8 + r.val, by omega⟩) o * errT xb sr wh y (tok t ⟨b.val * 8 + r.val, by omega⟩) o

/-- The accumulator after a tile. -/
def accT (l : Vec Ideal S8x256 .f32) : Fin 8 → Fin 256 → EReal := fun r o =>
  ((l (ix2 r o) + sqT xb sr wh y 0 r o) + sqT xb sr wh y 1 r o) + sqT xb sr wh y 2 r o

end Target

section Grad

variable (xt : Vec Ideal S2560x1536 .bf16) (e : Vec Ideal S1536x256 .bf16) (dw : Vec Ideal S2560x256 .f32)

/-- The sum of a group's products of the weights' gradients with their derivatives in the step, scaled. -/
def sT : Fin 20 → Fin 256 → EReal := fun g o =>
  (∑ k : Fin 128, (∑ t, xt (ix2 (col g k) t) * e (ix2 t o)) * dw (ix2 (col g k) o)) * Quant.scale

/-- The derivative of the logistic function times an extremum of the group. -/
def coT (p m : Vec Ideal S20x256 .f32) : Fin 20 → Fin 256 → EReal := fun g o =>
  (Ideal.logistic (p (ix2 g o)) * (1 - Ideal.logistic (p (ix2 g o)))) * m (ix2 g o)

/-- The gradient in the upper clipping parameter. -/
def dgT (p m : Vec Ideal S20x256 .f32) : Fin 20 → Fin 256 → EReal := fun g o => Ideal.div (sT xt e dw g o * coT p m g o) Quant.top

/-- The gradient in the lower clipping parameter. -/
def dbT (p m : Vec Ideal S20x256 .f32) : Fin 20 → Fin 256 → EReal := fun g o => Ideal.div ((0 - sT xt e dw g o) * coT p m g o) Quant.top

end Grad

section Vectors

variable (wh : Vec Ideal S2560x256 .bf16) (x : Vec Ideal S512x2560 .bf16) (s : Vec Ideal S512x128 .f32) (y : Vec Ideal S512x256 .bf16)

theorem err_apply (t : Fin 512) (o : Fin 256) : k0_pay409 (F := Ideal) wh x s y (ix2 t o)
    = (∑ d, x (ix2 t d) * wh (ix2 d o)) * s (ix2 t (lane o)) - y (ix2 t o) := by
  have hl : (if h : o.val < 128 then s (ix2 t ⟨o.val, h⟩) else s (ix2 t ⟨o.val - 128, by omega⟩)) = s (ix2 t (lane o)) := by
    split
    · exact congrArg (fun l => s (ix2 t l)) (Fin.ext (by simp only [lane]; omega))
    · exact congrArg (fun l => s (ix2 t l)) (Fin.ext (by simp only [lane]; omega))
  pointwise [k0_pay409, k0_pay408]
  rw [← hl]

theorem e_apply (t : Fin 512) (o : Fin 256) : k0_pay410 (F := Ideal) wh x s y (ix2 t o)
    = ((∑ d, x (ix2 t d) * wh (ix2 d o)) * s (ix2 t (lane o)) - y (ix2 t o)) * s (ix2 t (lane o)) := by
  have hl : (if h : o.val < 128 then s (ix2 t ⟨o.val, h⟩) else s (ix2 t ⟨o.val - 128, by omega⟩)) = s (ix2 t (lane o)) := by
    split
    · exact congrArg (fun l => s (ix2 t l)) (Fin.ext (by simp only [lane]; omega))
    · exact congrArg (fun l => s (ix2 t l)) (Fin.ext (by simp only [lane]; omega))
  rw [← err_apply]
  pointwise [k0_pay410, k0_pay408]
  rw [← hl]

/-- The squares of a vector folded onto eight rows. -/
def sqV (v : FVec Ideal S512x256 .f32) : FVec Ideal S8x256 .f32 :=
  multiReduction .add [0] S8x256 (shapeCast S64x8x256 (mulf v v) shapeCasts_S512x256_S64x8x256) 0x00000000#32
    reduces_S64x8x256_S8x256 (.inl rfl) rfl

theorem sqV_apply (v : FVec Ideal S512x256 .f32) (r : Fin 8) (o : Fin 256) : sqV v (ix2 r o)
    = ∑ b : Fin 64, v (ix2 ⟨b.val * 8 + r.val, by omega⟩ o) * v (ix2 ⟨b.val * 8 + r.val, by omega⟩ o) := by
  pointwise [sqV]

/-- The sum of a group's products. -/
def sV (g : Fin 20) (e : Vec Ideal S1536x256 .bf16) (xt : Vec Ideal S512x1536 .bf16) (dw : Vec Ideal S128x256 .f32) : FVec Ideal S1x256 .f32 :=
  mulf (shapeCast S1x256 (multiReduction .add [0] S256 (mulf (extractStridedSlice S128x256 ![128 * (g.val % 4), 0] (k0_pay423 (F := Ideal) e xt)
    (slice4 g)) dw) 0x00000000#32 reduces_S128x256_S256 (.inl rfl) rfl) shapeCasts_S256_S1x256)
    (broadcast S1x256 (Scalar.ofBits .f32 0x344A4588#32))

theorem sV_apply (g : Fin 20) (e : Vec Ideal S1536x256 .bf16) (xt : Vec Ideal S512x1536 .bf16) (dw : Vec Ideal S128x256 .f32) (r : Fin 1) (o : Fin 256) :
    sV g e xt dw (ix2 r o) = (∑ k : Fin 128, (∑ t, xt (ix2 ⟨128 * (g.val % 4) + k.val, by omega⟩ t) * e (ix2 t o)) * dw (ix2 k o)) * Quant.scale := by
  pointwise [sV, k0_pay423]
  rfl

/-- The gradient row of a group in the upper parameter. -/
def dgV (g : Fin 20) (co : FVec Ideal S20x256 .f32) (s : FVec Ideal S1x256 .f32) : FVec Ideal S1x256 .f32 :=
  divf (mulf s (extractStridedSlice S1x256 ![g.val, 0] co (sliceRow g))) (broadcast S1x256 (Scalar.ofBits .f32 0x41700000#32))

/-- The gradient row of a group in the lower parameter. -/
def dbV (g : Fin 20) (co : FVec Ideal S20x256 .f32) (s : FVec Ideal S1x256 .f32) : FVec Ideal S1x256 .f32 :=
  divf (mulf (subf (broadcast S1x256 (Scalar.ofBits .f32 0x00000000#32)) s) (extractStridedSlice S1x256 ![g.val, 0] co (sliceRow g)))
    (broadcast S1x256 (Scalar.ofBits .f32 0x41700000#32))

theorem dgV_apply (g : Fin 20) (co : FVec Ideal S20x256 .f32) (s : FVec Ideal S1x256 .f32) (r : Fin 1) (o : Fin 256) :
    dgV g co s (ix2 r o) = Ideal.div (s (ix2 r o) * co (ix2 g o)) Quant.top := by
  pointwise [dgV]
  rfl

theorem dbV_apply (g : Fin 20) (co : FVec Ideal S20x256 .f32) (s : FVec Ideal S1x256 .f32) (r : Fin 1) (o : Fin 256) :
    dbV g co s (ix2 r o) = Ideal.div ((0 - s (ix2 r o)) * co (ix2 g o)) Quant.top := by
  pointwise [dbV]
  rfl

theorem co_apply (p m : Vec Ideal S20x256 .f32) (g : Fin 20) (o : Fin 256) : k0_pay421 (F := Ideal) p m (ix2 g o) = coT p m g o := by
  pointwise [k0_pay421, coT]

end Vectors

variable (m15 : Memref sig .tc .vmem S1536x2560 .bf16) (h15 : m15.IsWhole) (xb : Vec Ideal S1536x2560 .bf16)
  (m16 : Memref sig .tc .vmem S2560x1536 .bf16) (h16 : m16.IsWhole) (xt : Vec Ideal S2560x1536 .bf16)
  (m17 : Memref sig .tc .vmem S1536x128 .f32) (h17 : m17.IsWhole) (sr : Vec Ideal S1536x128 .f32)
  (m18 : Memref sig .tc .vmem S2560x256 .bf16) (h18 : m18.IsWhole) (wh : Vec Ideal S2560x256 .bf16)
  (m19 : Memref sig .tc .vmem S2560x256 .f32) (h19 : m19.IsWhole) (dw : Vec Ideal S2560x256 .f32)
  (m8 : Memref sig .tc .vmem S1536x256 .bf16) (h8 : m8.IsWhole) (y : Vec Ideal S1536x256 .bf16)
  (m6 : Memref sig .tc .vmem S20x256 .f32) (h6 : m6.IsWhole) (p : Vec Ideal S20x256 .f32)
  (m20 : Memref sig .tc .vmem S20x256 .f32) (h20 : m20.IsWhole) (ext : Vec Ideal S20x256 .f32)
  (m22 : Memref sig .tc .vmem S1536x256 .bf16)
  (m23 : Memref sig .tc .vmem S8x256 .f32) (h23 : m23.IsWhole) (l : Vec Ideal S8x256 .f32)

/-- A chunk of x, as loaded. -/
def rdX (t : Fin 3) : Vec Ideal S512x2560 .bf16 :=
  View.readAt (Elt Ideal) m15.view (Rect.unit (s := S1536x2560) ![512 * t.val, 0] ![512, 2560] (inbX3 t)).toLoadRect (h15.unread xb)
/-- A chunk of the scales, as loaded. -/
def rdS (t : Fin 3) : Vec Ideal S512x128 .f32 :=
  View.readAt (Elt Ideal) m17.view (Rect.unit (s := S1536x128) ![512 * t.val, 0] ![512, 128] (inbS3 t)).toLoadRect (h17.unread sr)
/-- A chunk of the wanted outputs, as loaded. -/
def rdY (t : Fin 3) : Vec Ideal S512x256 .bf16 :=
  View.readAt (Elt Ideal) m8.view (Rect.unit (s := S1536x256) ![512 * t.val, 0] ![512, 256] (inbY3 t)).toLoadRect (h8.unread y)
/-- The dequantised weights, as loaded. -/
def rdWh : Vec Ideal S2560x256 .bf16 :=
  View.readAt (Elt Ideal) m18.view (Rect.unit (s := S2560x256) ![0, 0] S2560x256.size inb_S2560x256_S2560x256_0_0).toLoadRect (h18.unread wh)
/-- The accumulator, as loaded. -/
def rdL : Vec Ideal S8x256 .f32 :=
  View.readAt (Elt Ideal) m23.view (Rect.unit (s := S8x256) ![0, 0] S8x256.size inb_S8x256_S8x256_0_0).toLoadRect (h23.unread l)
/-- The rows of x transposed that hold group `g`, as loaded. -/
def rdXt (g : Fin 20) : Vec Ideal S512x1536 .bf16 :=
  View.readAt (Elt Ideal) m16.view (Rect.unit (s := S2560x1536) ![512 * (g.val / 4), 0] ![512, 1536] (inbXt5 g)).toLoadRect (h16.unread xt)
/-- Group `g`'s derivatives, as loaded. -/
def rdDw (g : Fin 20) : Vec Ideal S128x256 .f32 :=
  View.readAt (Elt Ideal) m19.view (Rect.unit (s := S2560x256) ![128 * g.val, 0] ![128, 256] (inbRows g)).toLoadRect (h19.unread dw)

theorem rdWh_eq : rdWh m18 h18 wh = wh := by
  unfold rdWh
  rw [View.readAt_eq_ld, Memref.IsWhole.read_unread]
  exact View.ld_unit_lit _ _ (by decide)

theorem rdL_eq : rdL m23 h23 l = l := by
  unfold rdL
  rw [View.readAt_eq_ld, Memref.IsWhole.read_unread]
  exact View.ld_unit_lit _ _ (by decide)

theorem rdX_apply (t : Fin 3) (a : Fin 512) (b : Fin 2560) : rdX m15 h15 xb t (ix2 a b) = xb (ix2 (tok t a) b) :=
  load2 m15 h15 xb (inbX3 t) a b (tok t a) b rfl (by omega)
theorem rdS_apply (t : Fin 3) (a : Fin 512) (b : Fin 128) : rdS m17 h17 sr t (ix2 a b) = sr (ix2 (tok t a) b) :=
  load2 m17 h17 sr (inbS3 t) a b (tok t a) b rfl (by omega)
theorem rdY_apply (t : Fin 3) (a : Fin 512) (b : Fin 256) : rdY m8 h8 y t (ix2 a b) = y (ix2 (tok t a) b) :=
  load2 m8 h8 y (inbY3 t) a b (tok t a) b rfl (by omega)
theorem rdXt_apply (g : Fin 20) (k : Fin 128) (t : Fin 1536) :
    rdXt m16 h16 xt g (ix2 ⟨128 * (g.val % 4) + k.val, by omega⟩ t) = xt (ix2 (col g k) t) :=
  load2 m16 h16 xt (inbXt5 g) ⟨128 * (g.val % 4) + k.val, by omega⟩ t (col g k) t (by simp only [col]; omega) (by omega)
theorem rdDw_apply (g : Fin 20) (k : Fin 128) (o : Fin 256) : rdDw m19 h19 dw g (ix2 k o) = dw (ix2 (col g k) o) :=
  load2 m19 h19 dw (inbRows g) k o (col g k) o rfl (by omega)

/-- A chunk's errors, from what is loaded. -/
def errV (t : Fin 3) : FVec Ideal S512x256 .f32 :=
  k0_pay409 (F := Ideal) (rdWh m18 h18 wh) (rdX m15 h15 xb t) (rdS m17 h17 sr t) (rdY m8 h8 y t)

theorem errV_apply (t : Fin 3) (b : Fin 512) (o : Fin 256) :
    errV m15 h15 xb m17 h17 sr m18 h18 wh m8 h8 y t (ix2 b o) = errT xb sr wh y (tok t b) o := by
  unfold errV
  rw [err_apply]
  simp only [rdWh_eq, rdX_apply, rdS_apply, rdY_apply]
  rfl

/-- The chunks stored into the buffer of scaled errors. -/
def pE : List (View.Piece (Elt Ideal) S1536x256 .bf16) :=
  ([2, 1, 0] : List (Fin 3)).map fun t => ⟨Rect.unit (s := S1536x256) ![512 * t.val, 0] ![512, 256] (inbY3 t),
    k0_pay410 (F := Ideal) (rdWh m18 h18 wh) (rdX m15 h15 xb t) (rdS m17 h17 sr t) (rdY m8 h8 y t)⟩

theorem pE_agree : ∀ q ∈ pE m15 h15 xb m17 h17 sr m18 h18 wh m8 h8 y, ∀ j : q.1.shape.Idx, q.2 j = arr2 (eT xb sr wh y) (q.1.emb j) := by
  intro q hq
  obtain ⟨t, -, rfl⟩ := List.mem_map.1 hq
  refine agree2 (e := .bf16) (inbY3 t) _ (eT xb sr wh y) (tok t) id (fun _ => rfl) (fun _ => (Nat.zero_add _).symm) ?_
  intro a b
  refine (e_apply _ _ _ _ a b).trans ?_
  simp only [rdWh_eq, rdX_apply, rdS_apply, rdY_apply]
  rfl

/-- The scaled errors, as loaded back. -/
def eV : Vec Ideal S1536x256 .bf16 :=
  m22.view.readCov (pE m15 h15 xb m17 h17 sr m18 h18 wh m8 h8 y)
    (Rect.unit (s := S1536x256) ![0, 0] S1536x256.size inb_S1536x256_S1536x256_0_0).toLoadRect

theorem eV_eq : eV m15 h15 xb m17 h17 sr m18 h18 wh m8 h8 y m22 = arr2 (eT xb sr wh y) := by
  unfold eV View.readCov
  rw [View.readAt_eq_ld, read_pieces m22.view _ _ _ rfl (arr2 (eT xb sr wh y)) (pE_agree m15 h15 xb m17 h17 sr m18 h18 wh m8 h8 y)
    (fun y' => View.cover_of_tiledL (pE m15 h15 xb m17 h17 sr m18 h18 wh m8 h8 y) S512x256.size (by sl_kernel_rfl) y')]
  exact View.ld_unit_lit _ _ (by decide)

/-- The accumulator's new contents, from what is loaded. -/
def accV : FVec Ideal S8x256 .f32 :=
  shapeCast S8x256 (addf (addf (addf (rdL m23 h23 l) (sqV (errV m15 h15 xb m17 h17 sr m18 h18 wh m8 h8 y 0)))
    (sqV (errV m15 h15 xb m17 h17 sr m18 h18 wh m8 h8 y 1))) (sqV (errV m15 h15 xb m17 h17 sr m18 h18 wh m8 h8 y 2))) shapeCasts_S8x256_S8x256

theorem accV_eq : accV m15 h15 xb m17 h17 sr m18 h18 wh m8 h8 y m23 h23 l = arr2 (accT xb sr wh y l) := by
  funext j
  obtain ⟨r, o, rfl⟩ : ∃ (r : Fin 8) (o : Fin 256), j = ix2 r o := ⟨j 0, j 1, eq_ix2 (n0 := 8) (n1 := 256) j⟩
  unfold accV
  rw [shapeCast_self]
  simp only [addf_apply, sqV_apply, errV_apply, rdL_eq]
  rfl

/-- The store into the accumulator. -/
def pAcc : List (View.Piece (Elt Ideal) S8x256 .f32) :=
  [⟨Rect.unit (s := S8x256) ![0, 0] ![8, 256] inb_S8x256_S8x256_0_0, accV m15 h15 xb m17 h17 sr m18 h18 wh m8 h8 y m23 h23 l⟩]

theorem pAcc_agree : ∀ q ∈ pAcc m15 h15 xb m17 h17 sr m18 h18 wh m8 h8 y m23 h23 l, ∀ j : q.1.shape.Idx,
    q.2 j = arr2 (accT xb sr wh y l) (q.1.emb j) := by
  intro q hq
  obtain rfl := List.mem_singleton.1 hq
  refine agree2 (e := .f32) inb_S8x256_S8x256_0_0 _ (accT xb sr wh y l) id id (fun _ => (Nat.zero_add _).symm) (fun _ => (Nat.zero_add _).symm) ?_
  exact fun a b => congrFun (accV_eq m15 h15 xb m17 h17 sr m18 h18 wh m8 h8 y m23 h23 l) _

/-- The sum of a group's products, from what is loaded. -/
def sumV (g : Fin 20) : FVec Ideal S1x256 .f32 :=
  sV g (eV m15 h15 xb m17 h17 sr m18 h18 wh m8 h8 y m22) (rdXt m16 h16 xt g) (rdDw m19 h19 dw g)

theorem sumV_apply (g : Fin 20) (r : Fin 1) (o : Fin 256) :
    sumV m15 h15 xb m16 h16 xt m17 h17 sr m18 h18 wh m19 h19 dw m8 h8 y m22 g (ix2 r o) = sT xt (arr2 (eT xb sr wh y)) dw g o := by
  unfold sumV
  rw [sV_apply, eV_eq]
  simp only [rdXt_apply, rdDw_apply]
  rfl

/-- The rows stored into the gradient of the upper parameter. -/
def pDg := rowPieces fun g => dgV g (k0_pay421 (F := Ideal) (rdG m6 h6 p) (rdG m20 h20 ext))
  (sumV m15 h15 xb m16 h16 xt m17 h17 sr m18 h18 wh m19 h19 dw m8 h8 y m22 g)

/-- The rows stored into the gradient of the lower parameter. -/
def pDb := rowPieces fun g => dbV g (k0_pay421 (F := Ideal) (rdG m6 h6 p) (rdG m20 h20 ext))
  (sumV m15 h15 xb m16 h16 xt m17 h17 sr m18 h18 wh m19 h19 dw m8 h8 y m22 g)

theorem pDg_agree : ∀ q ∈ pDg m15 h15 xb m16 h16 xt m17 h17 sr m18 h18 wh m19 h19 dw m8 h8 y m6 h6 p m20 h20 ext m22, ∀ j : q.1.shape.Idx,
    q.2 j = arr2 (dgT xt (arr2 (eT xb sr wh y)) dw p ext) (q.1.emb j) :=
  rows_agree _ _ fun g r o => by rw [dgV_apply, sumV_apply, co_apply]; simp only [rdG_eq]; rfl

theorem pDb_agree : ∀ q ∈ pDb m15 h15 xb m16 h16 xt m17 h17 sr m18 h18 wh m19 h19 dw m8 h8 y m6 h6 p m20 h20 ext m22, ∀ j : q.1.shape.Idx,
    q.2 j = arr2 (dbT xt (arr2 (eT xb sr wh y)) dw p ext) (q.1.emb j) :=
  rows_agree _ _ fun g r o => by rw [dbV_apply, sumV_apply, co_apply]; simp only [rdG_eq]; rfl

/-- The accumulator, as loaded back. -/
def accBack : Vec Ideal S8x256 .f32 :=
  m23.view.readCov (pAcc m15 h15 xb m17 h17 sr m18 h18 wh m8 h8 y m23 h23 l)
    (Rect.unit (s := S8x256) ![0, 0] S8x256.size inb_S8x256_S8x256_0_0).toLoadRect

theorem accBack_eq : accBack m15 h15 xb m17 h17 sr m18 h18 wh m8 h8 y m23 h23 l = arr2 (accT xb sr wh y l) := by
  unfold accBack View.readCov
  rw [View.readAt_eq_ld, read_pieces m23.view _ _ _ rfl (arr2 (accT xb sr wh y l)) (pAcc_agree m15 h15 xb m17 h17 sr m18 h18 wh m8 h8 y m23 h23 l)
    (fun y' => View.cover_of_tiledL (pAcc m15 h15 xb m17 h17 sr m18 h18 wh m8 h8 y m23 h23 l) S8x256.size (by sl_kernel_rfl) y')]
  exact View.ld_unit_lit _ _ (by decide)

/-- The loss: the accumulator's sum over the number of outputs. -/
def lossT (a : Vec Ideal S8x256 .f32) : Fin 1 → Fin 1 → EReal := fun _ _ => Ideal.div (∑ r : Fin 8, ∑ o : Fin 256, a (ix2 r o)) Quant.count

theorem loss_apply (a : Vec Ideal S8x256 .f32) (i j : Fin 1) : k0_pay2 (F := Ideal) a = lossT a i j := by
  pointwise [k0_pay2]
  rfl

/-- The store of the loss. -/
def pLoss : List (View.Piece (Elt Ideal) S1x1 .f32) :=
  [⟨Rect.unit (s := S1x1) ![0, 0] ![1, 1] inb_S1x1_S1x1_0_0, fun _ => k0_pay2 (F := Ideal) (accBack m15 h15 xb m17 h17 sr m18 h18 wh m8 h8 y m23 h23 l)⟩]

theorem pLoss_agree : ∀ q ∈ pLoss m15 h15 xb m17 h17 sr m18 h18 wh m8 h8 y m23 h23 l, ∀ j : q.1.shape.Idx,
    q.2 j = arr2 (lossT (arr2 (accT xb sr wh y l))) (q.1.emb j) := by
  intro q hq
  obtain rfl := List.mem_singleton.1 hq
  refine agree2 (e := .f32) inb_S1x1_S1x1_0_0 _ (lossT (arr2 (accT xb sr wh y l))) id id (fun _ => (Nat.zero_add _).symm) (fun _ => (Nat.zero_add _).symm) ?_
  intro a b
  rw [accBack_eq]
  exact loss_apply _ a b

/-- The store that clears the accumulator. -/
def pZero : List (View.Piece (Elt Ideal) S8x256 .f32) :=
  [⟨Rect.unit (s := S8x256) ![0, 0] ![8, 256] inb_S8x256_S8x256_0_0, k0_pay95 (F := Ideal)⟩]

theorem zero_apply (a : Fin 8) (b : Fin 256) : k0_pay95 (F := Ideal) (ix2 a b) = (0 : EReal) := by
  pointwise [k0_pay95]

theorem pZero_agree : ∀ q ∈ pZero, ∀ j : q.1.shape.Idx, q.2 j = arr2 (fun (_ : Fin 8) (_ : Fin 256) => (0 : EReal)) (q.1.emb j) := by
  intro q hq
  obtain rfl := List.mem_singleton.1 hq
  exact agree2 (e := .f32) inb_S8x256_S8x256_0_0 _ (fun (_ : Fin 8) (_ : Fin 256) => (0 : EReal)) id id (fun _ => (Nat.zero_add _).symm)
    (fun _ => (Nat.zero_add _).symm) zero_apply

end Cert.Tile

end
-- ==== Proof.OutsA.lean ====
/- What the first grid step leaves in every buffer. -/
module

public import proofs.«01_k».proof.Proof.Gen.KernelIdeal.Frame
public import proofs.«01_k».proof.Proof.Pass

@[expose] public section

set_option maxRecDepth 16384

noncomputable section

namespace Cert.Tile

open Cert.KernelIdeal Cert.KernelIdeal.Gen Idealize.ShloMosaic Idealize.SL.Sem

variable (c : Dev nD) (i : grid0.Coords) (arg1 : Memref sig .tc .vmem S1536x2560 .fp8e4m3) (harg1 : arg1.IsWhole) (arg2 : Memref sig .tc .vmem S1x1536 .f32) (harg2 : arg2.IsWhole) (arg3 : Memref sig .tc .vmem S256x2560 .f32) (harg3 : arg3.IsWhole) (arg4 : Memref sig .tc .vmem S20x256 .f32) (harg4 : arg4.IsWhole) (arg5 : Memref sig .tc .vmem S20x256 .f32) (harg5 : arg5.IsWhole) (arg6 : Memref sig .tc .vmem S20x256 .f32) (harg6 : arg6.IsWhole) (arg7 : Memref sig .tc .vmem S20x256 .f32) (harg7 : arg7.IsWhole) (arg8 : Memref sig .tc .vmem S1536x256 .bf16) (harg8 : arg8.IsWhole) (arg9 : Memref sig .tc .vmem S20x256 .f32) (harg9 : arg9.IsWhole) (arg10 : Memref sig .tc .vmem S20x256 .f32) (harg10 : arg10.IsWhole) (arg11 : Memref sig .tc .smem S1x1 .f32) (harg11 : arg11.IsWhole) (arg12 : Memref sig .tc .vmem S256x2560 .i8) (harg12 : arg12.IsWhole) (arg13 : Memref sig .tc .vmem S20x256 .f32) (harg13 : arg13.IsWhole) (arg14 : Memref sig .tc .vmem S20x256 .f32) (harg14 : arg14.IsWhole) (arg15 : Memref sig .tc .vmem S1536x2560 .bf16) (harg15 : arg15.IsWhole) (arg16 : Memref sig .tc .vmem S2560x1536 .bf16) (harg16 : arg16.IsWhole) (arg17 : Memref sig .tc .vmem S1536x128 .f32) (harg17 : arg17.IsWhole) (arg18 : Memref sig .tc .vmem S2560x256 .bf16) (harg18 : arg18.IsWhole) (arg19 : Memref sig .tc .vmem S2560x256 .f32) (harg19 : arg19.IsWhole) (arg20 : Memref sig .tc .vmem S20x256 .f32) (harg20 : arg20.IsWhole) (arg21 : Memref sig .tc .vmem S20x256 .f32) (harg21 : arg21.IsWhole) (arg22 : Memref sig .tc .vmem S1536x256 .bf16) (harg22 : arg22.IsWhole) (arg23 : Memref sig .tc .vmem S8x256 .f32) (harg23 : arg23.IsWhole) (hc0 : cond0_0 i) (hc1 : ¬cond0_1 i) (hc2 : ¬cond0_2 i)
    (x0 : Vec Ideal S1536x2560 .fp8e4m3) (x1 : Vec Ideal S1x1536 .f32) (x2 : Vec Ideal S256x2560 .f32) (x3 : Vec Ideal S20x256 .f32) (x4 : Vec Ideal S20x256 .f32) (x5 : Vec Ideal S20x256 .f32) (x6 : Vec Ideal S20x256 .f32) (x7 : Vec Ideal S1536x256 .bf16)

/-- The buffer of x holds its codes as numbers. -/
theorem sout0_A_0_eq : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (xbT x0) := by
  unfold sout0_A_0
  exact read_pieces _ _ _ (pXb arg1 harg1 x0) (by sl_kernel_rfl) _ (pXb_agree arg1 harg1 x0) (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The buffer of x transposed holds its codes as numbers. -/
theorem sout0_A_1_eq : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (xtT x0) := by
  unfold sout0_A_1
  exact read_pieces _ _ _ (pXt arg1 harg1 x0) (by sl_kernel_rfl) _ (pXt_agree arg1 harg1 x0) (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The buffer of scales holds each token's scale in every lane. -/
theorem sout0_A_2_eq : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (srT x1) := by
  unfold sout0_A_2
  exact read_pieces _ _ _ (pSr arg2 harg2 x1) (by sl_kernel_rfl) _ (pSr_agree arg2 harg2 x1) (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The accumulator is cleared. -/
theorem sout0_A_8_eq : sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (fun _ _ => (0 : EReal)) := by
  unfold sout0_A_8
  exact read_pieces _ _ _ (pZero) (by sl_kernel_rfl) _ (pZero_agree) (scover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The codes of the tile. -/
theorem out0_A_11_eq : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (codesT x2 x3 x4) := by
  unfold out0_A_11
  exact read_pieces _ _ _ (pCodes x2 x3 x4 arg3 harg3 arg4 harg4 arg5 harg5) (by sl_kernel_rfl) _ (pCodes_agree x2 x3 x4 arg3 harg3 arg4 harg4 arg5 harg5) (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The steps of the tile. -/
theorem out0_A_12_eq : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (hT x2 x3 x4) := by
  unfold out0_A_12
  exact read_pieces _ _ _ (pH x2 x3 x4 arg3 harg3 arg4 harg4 arg5 harg5) (by sl_kernel_rfl) _ (pH_agree x2 x3 x4 arg3 harg3 arg4 harg4 arg5 harg5) (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The zero points of the tile. -/
theorem out0_A_13_eq : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (zT x2 x3 x4) := by
  unfold out0_A_13
  exact read_pieces _ _ _ (pZ x2 x3 x4 arg3 harg3 arg4 harg4 arg5 harg5) (by sl_kernel_rfl) _ (pZ_agree x2 x3 x4 arg3 harg3 arg4 harg4 arg5 harg5) (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The dequantised weights of the tile. -/
theorem sout0_A_3_eq : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (whatT x2 x3 x4) := by
  unfold sout0_A_3
  exact read_pieces _ _ _ (pWhat x2 x3 x4 arg3 harg3 arg4 harg4 arg5 harg5) (by sl_kernel_rfl) _ (pWhat_agree x2 x3 x4 arg3 harg3 arg4 harg4 arg5 harg5) (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The derivatives of the dequantised weights of the tile. -/
theorem sout0_A_4_eq : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (dwT x2 x3 x4) := by
  unfold sout0_A_4
  exact read_pieces _ _ _ (pDw x2 x3 x4 arg3 harg3 arg4 harg4 arg5 harg5) (by sl_kernel_rfl) _ (pDw_agree x2 x3 x4 arg3 harg3 arg4 harg4 arg5 harg5) (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The largest weights of the tile. -/
theorem sout0_A_5_eq : sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (maxT x2) := by
  unfold sout0_A_5
  exact read_pieces _ _ _ (pMax x2 arg3 harg3) (by sl_kernel_rfl) _ (pMax_agree x2 arg3 harg3) (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

/-- The smallest weights of the tile. -/
theorem sout0_A_6_eq : sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7
    = arr2 (minT x2) := by
  unfold sout0_A_6
  exact read_pieces _ _ _ (pMin x2 arg3 harg3) (by sl_kernel_rfl) _ (pMin_agree x2 arg3 harg3) (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7)

end Cert.Tile

end
-- ==== Proof.OutsB.lean ====
/- What a grid step between the first and the last leaves in every buffer. -/
module

public import proofs.«01_k».proof.Proof.Gen.KernelIdeal.Frame
public import proofs.«01_k».proof.Proof.Pass

@[expose] public section

set_option maxRecDepth 16384

noncomputable section

namespace Cert.Tile

open Cert.KernelIdeal Cert.KernelIdeal.Gen Idealize.ShloMosaic Idealize.SL.Sem

variable (c : Dev nD) (i : grid0.Coords) (arg1 : Memref sig .tc .vmem S1536x2560 .fp8e4m3) (harg1 : arg1.IsWhole) (arg2 : Memref sig .tc .vmem S1x1536 .f32) (harg2 : arg2.IsWhole) (arg3 : Memref sig .tc .vmem S256x2560 .f32) (harg3 : arg3.IsWhole) (arg4 : Memref sig .tc .vmem S20x256 .f32) (harg4 : arg4.IsWhole) (arg5 : Memref sig .tc .vmem S20x256 .f32) (harg5 : arg5.IsWhole) (arg6 : Memref sig .tc .vmem S20x256 .f32) (harg6 : arg6.IsWhole) (arg7 : Memref sig .tc .vmem S20x256 .f32) (harg7 : arg7.IsWhole) (arg8 : Memref sig .tc .vmem S1536x256 .bf16) (harg8 : arg8.IsWhole) (arg9 : Memref sig .tc .vmem S20x256 .f32) (harg9 : arg9.IsWhole) (arg10 : Memref sig .tc .vmem S20x256 .f32) (harg10 : arg10.IsWhole) (arg11 : Memref sig .tc .smem S1x1 .f32) (harg11 : arg11.IsWhole) (arg12 : Memref sig .tc .vmem S256x2560 .i8) (harg12 : arg12.IsWhole) (arg13 : Memref sig .tc .vmem S20x256 .f32) (harg13 : arg13.IsWhole) (arg14 : Memref sig .tc .vmem S20x256 .f32) (harg14 : arg14.IsWhole) (arg15 : Memref sig .tc .vmem S1536x2560 .bf16) (harg15 : arg15.IsWhole) (arg16 : Memref sig .tc .vmem S2560x1536 .bf16) (harg16 : arg16.IsWhole) (arg17 : Memref sig .tc .vmem S1536x128 .f32) (harg17 : arg17.IsWhole) (arg18 : Memref sig .tc .vmem S2560x256 .bf16) (harg18 : arg18.IsWhole) (arg19 : Memref sig .tc .vmem S2560x256 .f32) (harg19 : arg19.IsWhole) (arg20 : Memref sig .tc .vmem S20x256 .f32) (harg20 : arg20.IsWhole) (arg21 : Memref sig .tc .vmem S20x256 .f32) (harg21 : arg21.IsWhole) (arg22 : Memref sig .tc .vmem S1536x256 .bf16) (harg22 : arg22.IsWhole) (arg23 : Memref sig .tc .vmem S8x256 .f32) (harg23 : arg23.IsWhole) (hc0 : ¬cond0_0 i) (hc1 : cond0_1 i) (hc2 : ¬cond0_2 i)
    (x0 : Vec Ideal S1536x2560 .fp8e4m3) (x1 : Vec Ideal S1x1536 .f32) (x2 : Vec Ideal S256x2560 .f32) (x3 : Vec Ideal S20x256 .f32) (x4 : Vec Ideal S20x256 .f32) (x5 : Vec Ideal S20x256 .f32) (x6 : Vec Ideal S20x256 .f32) (x7 : Vec Ideal S1536x256 .bf16) (xs0 : Vec Ideal S1536x2560 .bf16) (xs1 : Vec Ideal S2560x1536 .bf16) (xs2 : Vec Ideal S1536x128 .f32) (xs3 : Vec Ideal S2560x256 .bf16) (xs4 : Vec Ideal S2560x256 .f32) (xs5 : Vec Ideal S20x256 .f32) (xs6 : Vec Ideal S20x256 .f32) (xs8 : Vec Ideal S8x256 .f32)

/-- The gradient in the upper parameter of the tile before. -/
theorem out0_B_8_eq : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (dgT xs1 (arr2 (eT xs0 xs2 xs3 x7)) xs4 x5 xs5) := by
  unfold out0_B_8
  exact read_pieces _ _ _ (pDg arg15 harg15 xs0 arg16 harg16 xs1 arg17 harg17 xs2 arg18 harg18 xs3 arg19 harg19 xs4 arg8 harg8 x7 arg6 harg6 x5 arg20 harg20 xs5 arg22) (by sl_kernel_rfl) _ (pDg_agree arg15 harg15 xs0 arg16 harg16 xs1 arg17 harg17 xs2 arg18 harg18 xs3 arg19 harg19 xs4 arg8 harg8 x7 arg6 harg6 x5 arg20 harg20 xs5 arg22) (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The gradient in the lower parameter of the tile before. -/
theorem out0_B_9_eq : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (dbT xs1 (arr2 (eT xs0 xs2 xs3 x7)) xs4 x6 xs6) := by
  unfold out0_B_9
  exact read_pieces _ _ _ (pDb arg15 harg15 xs0 arg16 harg16 xs1 arg17 harg17 xs2 arg18 harg18 xs3 arg19 harg19 xs4 arg8 harg8 x7 arg7 harg7 x6 arg21 harg21 xs6 arg22) (by sl_kernel_rfl) _ (pDb_agree arg15 harg15 xs0 arg16 harg16 xs1 arg17 harg17 xs2 arg18 harg18 xs3 arg19 harg19 xs4 arg8 harg8 x7 arg7 harg7 x6 arg21 harg21 xs6 arg22) (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The accumulator with the squares of the tile before added. -/
theorem sout0_B_8_eq : sout0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (accT xs0 xs2 xs3 x7 xs8) := by
  unfold sout0_B_8
  exact read_pieces _ _ _ (pAcc arg15 harg15 xs0 arg17 harg17 xs2 arg18 harg18 xs3 arg8 harg8 x7 arg23 harg23 xs8) (by sl_kernel_rfl) _ (pAcc_agree arg15 harg15 xs0 arg17 harg17 xs2 arg18 harg18 xs3 arg8 harg8 x7 arg23 harg23 xs8) (scover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The codes of the tile. -/
theorem out0_B_11_eq : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (codesT x2 x3 x4) := by
  unfold out0_B_11
  exact read_pieces _ _ _ (pCodes x2 x3 x4 arg3 harg3 arg4 harg4 arg5 harg5) (by sl_kernel_rfl) _ (pCodes_agree x2 x3 x4 arg3 harg3 arg4 harg4 arg5 harg5) (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The steps of the tile. -/
theorem out0_B_12_eq : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (hT x2 x3 x4) := by
  unfold out0_B_12
  exact read_pieces _ _ _ (pH x2 x3 x4 arg3 harg3 arg4 harg4 arg5 harg5) (by sl_kernel_rfl) _ (pH_agree x2 x3 x4 arg3 harg3 arg4 harg4 arg5 harg5) (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The zero points of the tile. -/
theorem out0_B_13_eq : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (zT x2 x3 x4) := by
  unfold out0_B_13
  exact read_pieces _ _ _ (pZ x2 x3 x4 arg3 harg3 arg4 harg4 arg5 harg5) (by sl_kernel_rfl) _ (pZ_agree x2 x3 x4 arg3 harg3 arg4 harg4 arg5 harg5) (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The dequantised weights of the tile. -/
theorem sout0_B_3_eq : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (whatT x2 x3 x4) := by
  unfold sout0_B_3
  exact read_pieces _ _ _ (pWhat x2 x3 x4 arg3 harg3 arg4 harg4 arg5 harg5) (by sl_kernel_rfl) _ (pWhat_agree x2 x3 x4 arg3 harg3 arg4 harg4 arg5 harg5) (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The derivatives of the dequantised weights of the tile. -/
theorem sout0_B_4_eq : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (dwT x2 x3 x4) := by
  unfold sout0_B_4
  exact read_pieces _ _ _ (pDw x2 x3 x4 arg3 harg3 arg4 harg4 arg5 harg5) (by sl_kernel_rfl) _ (pDw_agree x2 x3 x4 arg3 harg3 arg4 harg4 arg5 harg5) (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The largest weights of the tile. -/
theorem sout0_B_5_eq : sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (maxT x2) := by
  unfold sout0_B_5
  exact read_pieces _ _ _ (pMax x2 arg3 harg3) (by sl_kernel_rfl) _ (pMax_agree x2 arg3 harg3) (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The smallest weights of the tile. -/
theorem sout0_B_6_eq : sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (minT x2) := by
  unfold sout0_B_6
  exact read_pieces _ _ _ (pMin x2 arg3 harg3) (by sl_kernel_rfl) _ (pMin_agree x2 arg3 harg3) (scover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

end Cert.Tile

end
-- ==== Proof.OutsC.lean ====
/- What the last grid step leaves in every buffer. -/
module

public import proofs.«01_k».proof.Proof.Gen.KernelIdeal.Frame
public import proofs.«01_k».proof.Proof.Pass

@[expose] public section

set_option maxRecDepth 16384

noncomputable section

namespace Cert.Tile

open Cert.KernelIdeal Cert.KernelIdeal.Gen Idealize.ShloMosaic Idealize.SL.Sem

variable (c : Dev nD) (i : grid0.Coords) (arg1 : Memref sig .tc .vmem S1536x2560 .fp8e4m3) (harg1 : arg1.IsWhole) (arg2 : Memref sig .tc .vmem S1x1536 .f32) (harg2 : arg2.IsWhole) (arg3 : Memref sig .tc .vmem S256x2560 .f32) (harg3 : arg3.IsWhole) (arg4 : Memref sig .tc .vmem S20x256 .f32) (harg4 : arg4.IsWhole) (arg5 : Memref sig .tc .vmem S20x256 .f32) (harg5 : arg5.IsWhole) (arg6 : Memref sig .tc .vmem S20x256 .f32) (harg6 : arg6.IsWhole) (arg7 : Memref sig .tc .vmem S20x256 .f32) (harg7 : arg7.IsWhole) (arg8 : Memref sig .tc .vmem S1536x256 .bf16) (harg8 : arg8.IsWhole) (arg9 : Memref sig .tc .vmem S20x256 .f32) (harg9 : arg9.IsWhole) (arg10 : Memref sig .tc .vmem S20x256 .f32) (harg10 : arg10.IsWhole) (arg11 : Memref sig .tc .smem S1x1 .f32) (harg11 : arg11.IsWhole) (arg12 : Memref sig .tc .vmem S256x2560 .i8) (harg12 : arg12.IsWhole) (arg13 : Memref sig .tc .vmem S20x256 .f32) (harg13 : arg13.IsWhole) (arg14 : Memref sig .tc .vmem S20x256 .f32) (harg14 : arg14.IsWhole) (arg15 : Memref sig .tc .vmem S1536x2560 .bf16) (harg15 : arg15.IsWhole) (arg16 : Memref sig .tc .vmem S2560x1536 .bf16) (harg16 : arg16.IsWhole) (arg17 : Memref sig .tc .vmem S1536x128 .f32) (harg17 : arg17.IsWhole) (arg18 : Memref sig .tc .vmem S2560x256 .bf16) (harg18 : arg18.IsWhole) (arg19 : Memref sig .tc .vmem S2560x256 .f32) (harg19 : arg19.IsWhole) (arg20 : Memref sig .tc .vmem S20x256 .f32) (harg20 : arg20.IsWhole) (arg21 : Memref sig .tc .vmem S20x256 .f32) (harg21 : arg21.IsWhole) (arg22 : Memref sig .tc .vmem S1536x256 .bf16) (harg22 : arg22.IsWhole) (arg23 : Memref sig .tc .vmem S8x256 .f32) (harg23 : arg23.IsWhole) (hc0 : ¬cond0_0 i) (hc1 : cond0_1 i) (hc2 : cond0_2 i)
    (x0 : Vec Ideal S1536x2560 .fp8e4m3) (x1 : Vec Ideal S1x1536 .f32) (x2 : Vec Ideal S256x2560 .f32) (x3 : Vec Ideal S20x256 .f32) (x4 : Vec Ideal S20x256 .f32) (x5 : Vec Ideal S20x256 .f32) (x6 : Vec Ideal S20x256 .f32) (x7 : Vec Ideal S1536x256 .bf16) (xs0 : Vec Ideal S1536x2560 .bf16) (xs1 : Vec Ideal S2560x1536 .bf16) (xs2 : Vec Ideal S1536x128 .f32) (xs3 : Vec Ideal S2560x256 .bf16) (xs4 : Vec Ideal S2560x256 .f32) (xs5 : Vec Ideal S20x256 .f32) (xs6 : Vec Ideal S20x256 .f32) (xs8 : Vec Ideal S8x256 .f32)

/-- The gradient in the upper parameter of the tile before. -/
theorem out0_C_8_eq : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (dgT xs1 (arr2 (eT xs0 xs2 xs3 x7)) xs4 x5 xs5) := by
  unfold out0_C_8
  exact read_pieces _ _ _ (pDg arg15 harg15 xs0 arg16 harg16 xs1 arg17 harg17 xs2 arg18 harg18 xs3 arg19 harg19 xs4 arg8 harg8 x7 arg6 harg6 x5 arg20 harg20 xs5 arg22) (by sl_kernel_rfl) _ (pDg_agree arg15 harg15 xs0 arg16 harg16 xs1 arg17 harg17 xs2 arg18 harg18 xs3 arg19 harg19 xs4 arg8 harg8 x7 arg6 harg6 x5 arg20 harg20 xs5 arg22) (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The gradient in the lower parameter of the tile before. -/
theorem out0_C_9_eq : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (dbT xs1 (arr2 (eT xs0 xs2 xs3 x7)) xs4 x6 xs6) := by
  unfold out0_C_9
  exact read_pieces _ _ _ (pDb arg15 harg15 xs0 arg16 harg16 xs1 arg17 harg17 xs2 arg18 harg18 xs3 arg19 harg19 xs4 arg8 harg8 x7 arg7 harg7 x6 arg21 harg21 xs6 arg22) (by sl_kernel_rfl) _ (pDb_agree arg15 harg15 xs0 arg16 harg16 xs1 arg17 harg17 xs2 arg18 harg18 xs3 arg19 harg19 xs4 arg8 harg8 x7 arg7 harg7 x6 arg21 harg21 xs6 arg22) (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The accumulator with the squares of the tile before added. -/
theorem sout0_C_8_eq : sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (accT xs0 xs2 xs3 x7 xs8) := by
  unfold sout0_C_8
  exact read_pieces _ _ _ (pAcc arg15 harg15 xs0 arg17 harg17 xs2 arg18 harg18 xs3 arg8 harg8 x7 arg23 harg23 xs8) (by sl_kernel_rfl) _ (pAcc_agree arg15 harg15 xs0 arg17 harg17 xs2 arg18 harg18 xs3 arg8 harg8 x7 arg23 harg23 xs8) (scover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The loss, from the accumulator. -/
theorem out0_C_10_eq : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (lossT (arr2 (accT xs0 xs2 xs3 x7 xs8))) := by
  unfold out0_C_10
  exact read_pieces _ _ _ (pLoss arg15 harg15 xs0 arg17 harg17 xs2 arg18 harg18 xs3 arg8 harg8 x7 arg23 harg23 xs8) (by sl_kernel_rfl) _ (pLoss_agree arg15 harg15 xs0 arg17 harg17 xs2 arg18 harg18 xs3 arg8 harg8 x7 arg23 harg23 xs8) (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The codes of the tile. -/
theorem out0_C_11_eq : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (codesT x2 x3 x4) := by
  unfold out0_C_11
  exact read_pieces _ _ _ (pCodes x2 x3 x4 arg3 harg3 arg4 harg4 arg5 harg5) (by sl_kernel_rfl) _ (pCodes_agree x2 x3 x4 arg3 harg3 arg4 harg4 arg5 harg5) (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The steps of the tile. -/
theorem out0_C_12_eq : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (hT x2 x3 x4) := by
  unfold out0_C_12
  exact read_pieces _ _ _ (pH x2 x3 x4 arg3 harg3 arg4 harg4 arg5 harg5) (by sl_kernel_rfl) _ (pH_agree x2 x3 x4 arg3 harg3 arg4 harg4 arg5 harg5) (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The zero points of the tile. -/
theorem out0_C_13_eq : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (zT x2 x3 x4) := by
  unfold out0_C_13
  exact read_pieces _ _ _ (pZ x2 x3 x4 arg3 harg3 arg4 harg4 arg5 harg5) (by sl_kernel_rfl) _ (pZ_agree x2 x3 x4 arg3 harg3 arg4 harg4 arg5 harg5) (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The dequantised weights of the tile. -/
theorem sout0_C_3_eq : sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (whatT x2 x3 x4) := by
  unfold sout0_C_3
  exact read_pieces _ _ _ (pWhat x2 x3 x4 arg3 harg3 arg4 harg4 arg5 harg5) (by sl_kernel_rfl) _ (pWhat_agree x2 x3 x4 arg3 harg3 arg4 harg4 arg5 harg5) (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The derivatives of the dequantised weights of the tile. -/
theorem sout0_C_4_eq : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (dwT x2 x3 x4) := by
  unfold sout0_C_4
  exact read_pieces _ _ _ (pDw x2 x3 x4 arg3 harg3 arg4 harg4 arg5 harg5) (by sl_kernel_rfl) _ (pDw_agree x2 x3 x4 arg3 harg3 arg4 harg4 arg5 harg5) (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The largest weights of the tile. -/
theorem sout0_C_5_eq : sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (maxT x2) := by
  unfold sout0_C_5
  exact read_pieces _ _ _ (pMax x2 arg3 harg3) (by sl_kernel_rfl) _ (pMax_agree x2 arg3 harg3) (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

/-- The smallest weights of the tile. -/
theorem sout0_C_6_eq : sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8
    = arr2 (minT x2) := by
  unfold sout0_C_6
  exact read_pieces _ _ _ (pMin x2 arg3 harg3) (by sl_kernel_rfl) _ (pMin_agree x2 arg3 harg3) (scover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 xs0 xs1 xs2 xs3 xs4 xs5 xs6 xs8)

end Cert.Tile

end
-- ==== Proof.Blocks.lean ====
/- What every window of the kernel holds at every grid step: the tile of the argument array it reads. -/
module

public import proofs.«01_k».proof.Proof.Gen.KernelIdeal.Frame.Runs
public import proofs.«01_k».proof.Proof.Pass

@[expose] public section

set_option maxRecDepth 16384

noncomputable section

namespace Cert.Sweep

open Cert.KernelIdeal Cert.KernelIdeal.Gen Idealize.ShloMosaic Idealize.ShloMosaic.TcCoe Idealize.ShloMosaic.Tactic Idealize.SL.Sem

/-- The batch entry of a token. -/
def bat (t : Fin 1536) : Fin 6 := ⟨t.val / 256, by omega⟩

/-- The position of a token in its batch entry. -/
def pos (t : Fin 1536) : Fin 256 := ⟨t.val % 256, by omega⟩

/-- Output `o` of tile `p`. -/
def out (p : Fin 27) (o : Fin 256) : Fin 6912 := ⟨256 * p.val + o.val, by omega⟩

/-- The tile a grid step quantises. -/
def nxt (t : Fin grid0.N) : Fin 27 := ⟨min t.val 26, by omega⟩

/-- The tile a grid step takes the gradients of. -/
def prv (t : Fin grid0.N) : Fin 27 := ⟨t.val - 1, by have := t.isLt; have : grid0.N = 28 := N_0; omega⟩

/-- The codes of x, token by token. -/
def xOf (a : Vec Ideal S6x256x2560 .fp8e4m3) : Vec Ideal S1536x2560 .fp8e4m3 := Tile.arr2 fun t d => a (ix3 (bat t) (pos t) d)

/-- The scales of the tokens. -/
def sOf (a : Vec Ideal S6x256 .f32) : Vec Ideal S1x1536 .f32 := Tile.arr2 fun _ t => a (ix2 (bat t) (pos t))

/-- Tile `p` of the weights. -/
def wOf (a : Vec Ideal S6912x2560 .f32) (p : Fin 27) : Vec Ideal S256x2560 .f32 := Tile.arr2 fun o d => a (ix2 (out p o) d)

/-- Tile `p` of a clipping parameter. -/
def gOf (a : Vec Ideal S6912x20 .f32) (p : Fin 27) : Vec Ideal S20x256 .f32 := Tile.arr2 fun g o => a (ix2 (out p o) g)

/-- Tile `p` of the targets. -/
def yOf (a : Vec Ideal S6x256x6912 .bf16) (p : Fin 27) : Vec Ideal S1536x256 .bf16 := Tile.arr2 fun t o => a (ix3 (bat t) (pos t) (out p o))

variable (m : (ℓ : Loc nD τ sig) → Buf (Elt Ideal) ℓ) (c : Dev nD)

theorem V_main_v0 : V m c main_v0 = shapeCast S1536x2560 (m ((c : Thread nD τ).loc main_arg0)) shapeCasts_S6x256x2560_S1536x2560 := by
  show StableHlo.after hostOps0 _ (Proc.devRef .tc main_v0) = _
  after_results
  rfl

theorem V_main_v1 : V m c main_v1 = shapeCast S1x1536 (m ((c : Thread nD τ).loc main_arg1)) shapeCasts_S6x256_S1x1536 := by
  show StableHlo.after hostOps0 _ (Proc.devRef .tc main_v1) = _
  after_results
  rfl

theorem V_main_v2 : V m c main_v2 = transpose S20x6912 [1, 0] (m ((c : Thread nD τ).loc main_arg3)) transposes_S6912x20_S20x6912_1_0 := by
  show StableHlo.after hostOps0 _ (Proc.devRef .tc main_v2) = _
  after_results

theorem V_main_v3 : V m c main_v3 = transpose S20x6912 [1, 0] (m ((c : Thread nD τ).loc main_arg4)) transposes_S6912x20_S20x6912_1_0 := by
  show StableHlo.after hostOps0 _ (Proc.devRef .tc main_v3) = _
  after_results

theorem V_main_v4 : V m c main_v4 = transpose S20x6912 [1, 0] (m ((c : Thread nD τ).loc main_arg3)) transposes_S6912x20_S20x6912_1_0 := by
  show StableHlo.after hostOps0 _ (Proc.devRef .tc main_v4) = _
  after_results

theorem V_main_v5 : V m c main_v5 = transpose S20x6912 [1, 0] (m ((c : Thread nD τ).loc main_arg4)) transposes_S6912x20_S20x6912_1_0 := by
  show StableHlo.after hostOps0 _ (Proc.devRef .tc main_v5) = _
  after_results

theorem V_main_v6 : V m c main_v6 = shapeCast S1536x6912 (m ((c : Thread nD τ).loc main_arg5)) shapeCasts_S6x256x6912_S1536x6912 := by
  show StableHlo.after hostOps0 _ (Proc.devRef .tc main_v6) = _
  after_results
  rfl

theorem index_0 : ∀ t : Fin grid0.N, win0_0.index t 0 = 0 ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = (nxt t).val ∧ win0_2.index t 1 = 0 := by decide +kernel
theorem index_3 : ∀ t : Fin grid0.N, win0_3.index t 0 = 0 ∧ win0_3.index t 1 = (nxt t).val := by decide +kernel
theorem index_4 : ∀ t : Fin grid0.N, win0_4.index t 0 = 0 ∧ win0_4.index t 1 = (nxt t).val := by decide +kernel
theorem index_5 : ∀ t : Fin grid0.N, win0_5.index t 0 = 0 ∧ win0_5.index t 1 = (prv t).val := by decide +kernel
theorem index_6 : ∀ t : Fin grid0.N, win0_6.index t 0 = 0 ∧ win0_6.index t 1 = (prv t).val := by decide +kernel
theorem index_7 : ∀ t : Fin grid0.N, win0_7.index t 0 = 0 ∧ win0_7.index t 1 = (prv t).val := by decide +kernel

theorem merge0 (A : Vec Ideal S6x256x2560 .fp8e4m3) (t : Fin 1536) (d : Fin 2560) :
    shapeCast S1536x2560 A shapeCasts_S6x256x2560_S1536x2560 (ix2 t d) = A (ix3 (bat t) (pos t) d) := by
  pointwise [bat, pos]

theorem merge1 (A : Vec Ideal S6x256 .f32) (u : Fin 1) (t : Fin 1536) :
    shapeCast S1x1536 A shapeCasts_S6x256_S1x1536 (ix2 u t) = A (ix2 (bat t) (pos t)) := by
  pointwise [bat, pos]

theorem merge5 (A : Vec Ideal S6x256x6912 .bf16) (t : Fin 1536) (o : Fin 6912) :
    shapeCast S1536x6912 A shapeCasts_S6x256x6912_S1536x6912 (ix2 t o) = A (ix3 (bat t) (pos t) o) := by
  pointwise [bat, pos]

theorem turn (A : Vec Ideal S6912x20 .f32) (g : Fin 20) (o : Fin 6912) :
    transpose S20x6912 [1, 0] A transposes_S6912x20_S20x6912_1_0 (ix2 g o) = A (ix2 o g) := by
  pointwise

/-- The block of window 0. -/
theorem iblk_0 (t : Fin cfg0.N) : (iblk m c 0 t : Vec Ideal S1536x2560 .fp8e4m3) = xOf (m ((c : Thread nD τ).loc main_arg0)) := by
  funext j
  obtain ⟨h0, h1⟩ := index_0 t
  unfold iblk
  rw [View.read_apply]
  show V m c main_v0 _ = _
  refine (congrArg (V m c main_v0) (?_ : _ = ix2 (j 0 : Fin 1536) (j 1 : Fin 2560))).trans ?_
  · funext a
    apply Fin.ext
    match a with
    | ⟨0, _⟩ => show win0_0.index t 0 * 1536 + 1 * (j 0).val = ((j 0 : Fin 1536)).val; rw [h0]; omega
    | ⟨1, _⟩ => show win0_0.index t 1 * 2560 + 1 * (j 1).val = ((j 1 : Fin 2560)).val; rw [h1]; omega
  · rw [V_main_v0]
    exact merge0 _ _ _

/-- The block of window 1. -/
theorem iblk_1 (t : Fin cfg0.N) : (iblk m c 1 t : Vec Ideal S1x1536 .f32) = sOf (m ((c : Thread nD τ).loc main_arg1)) := by
  funext j
  obtain ⟨h0, h1⟩ := index_1 t
  unfold iblk
  rw [View.read_apply]
  show V m c main_v1 _ = _
  refine (congrArg (V m c main_v1) (?_ : _ = ix2 (j 0 : Fin 1) (j 1 : Fin 1536))).trans ?_
  · funext a
    apply Fin.ext
    match a with
    | ⟨0, _⟩ => show win0_1.index t 0 * 1 + 1 * (j 0).val = ((j 0 : Fin 1)).val; rw [h0]; omega
    | ⟨1, _⟩ => show win0_1.index t 1 * 1536 + 1 * (j 1).val = ((j 1 : Fin 1536)).val; rw [h1]; omega
  · rw [V_main_v1]
    exact merge1 _ _ _

/-- The block of window 2. -/
theorem iblk_2 (t : Fin cfg0.N) : (iblk m c 2 t : Vec Ideal S256x2560 .f32) = wOf (m ((c : Thread nD τ).loc main_arg2)) (nxt t) := by
  funext j
  obtain ⟨h0, h1⟩ := index_2 t
  unfold iblk
  rw [View.read_apply]
  show V m c main_arg2 _ = _
  refine (congrArg (V m c main_arg2) (?_ : _ = ix2 (out (nxt t) (j 0)) (j 1 : Fin 2560))).trans ?_
  · funext a
    apply Fin.ext
    match a with
    | ⟨0, _⟩ => show win0_2.index t 0 * 256 + 1 * (j 0).val = ((out (nxt t) (j 0))).val; rw [h0]; simp [out]; omega
    | ⟨1, _⟩ => show win0_2.index t 1 * 2560 + 1 * (j 1).val = ((j 1 : Fin 2560)).val; rw [h1]; omega
  · rw [V_main_arg2]
    rfl

/-- The block of window 3. -/
theorem iblk_3 (t : Fin cfg0.N) : (iblk m c 3 t : Vec Ideal S20x256 .f32) = gOf (m ((c : Thread nD τ).loc main_arg3)) (nxt t) := by
  funext j
  obtain ⟨h0, h1⟩ := index_3 t
  unfold iblk
  rw [View.read_apply]
  show V m c main_v2 _ = _
  refine (congrArg (V m c main_v2) (?_ : _ = ix2 (j 0 : Fin 20) (out (nxt t) (j 1)))).trans ?_
  · funext a
    apply Fin.ext
    match a with
    | ⟨0, _⟩ => show win0_3.index t 0 * 20 + 1 * (j 0).val = ((j 0 : Fin 20)).val; rw [h0]; omega
    | ⟨1, _⟩ => show win0_3.index t 1 * 256 + 1 * (j 1).val = ((out (nxt t) (j 1))).val; rw [h1]; simp [out]; omega
  · rw [V_main_v2]
    exact turn _ _ _

/-- The block of window 4. -/
theorem iblk_4 (t : Fin cfg0.N) : (iblk m c 4 t : Vec Ideal S20x256 .f32) = gOf (m ((c : Thread nD τ).loc main_arg4)) (nxt t) := by
  funext j
  obtain ⟨h0, h1⟩ := index_4 t
  unfold iblk
  rw [View.read_apply]
  show V m c main_v3 _ = _
  refine (congrArg (V m c main_v3) (?_ : _ = ix2 (j 0 : Fin 20) (out (nxt t) (j 1)))).trans ?_
  · funext a
    apply Fin.ext
    match a with
    | ⟨0, _⟩ => show win0_4.index t 0 * 20 + 1 * (j 0).val = ((j 0 : Fin 20)).val; rw [h0]; omega
    | ⟨1, _⟩ => show win0_4.index t 1 * 256 + 1 * (j 1).val = ((out (nxt t) (j 1))).val; rw [h1]; simp [out]; omega
  · rw [V_main_v3]
    exact turn _ _ _

/-- The block of window 5. -/
theorem iblk_5 (t : Fin cfg0.N) : (iblk m c 5 t : Vec Ideal S20x256 .f32) = gOf (m ((c : Thread nD τ).loc main_arg3)) (prv t) := by
  funext j
  obtain ⟨h0, h1⟩ := index_5 t
  unfold iblk
  rw [View.read_apply]
  show V m c main_v4 _ = _
  refine (congrArg (V m c main_v4) (?_ : _ = ix2 (j 0 : Fin 20) (out (prv t) (j 1)))).trans ?_
  · funext a
    apply Fin.ext
    match a with
    | ⟨0, _⟩ => show win0_5.index t 0 * 20 + 1 * (j 0).val = ((j 0 : Fin 20)).val; rw [h0]; omega
    | ⟨1, _⟩ => show win0_5.index t 1 * 256 + 1 * (j 1).val = ((out (prv t) (j 1))).val; rw [h1]; simp [out]; omega
  · rw [V_main_v4]
    exact turn _ _ _

/-- The block of window 6. -/
theorem iblk_6 (t : Fin cfg0.N) : (iblk m c 6 t : Vec Ideal S20x256 .f32) = gOf (m ((c : Thread nD τ).loc main_arg4)) (prv t) := by
  funext j
  obtain ⟨h0, h1⟩ := index_6 t
  unfold iblk
  rw [View.read_apply]
  show V m c main_v5 _ = _
  refine (congrArg (V m c main_v5) (?_ : _ = ix2 (j 0 : Fin 20) (out (prv t) (j 1)))).trans ?_
  · funext a
    apply Fin.ext
    match a with
    | ⟨0, _⟩ => show win0_6.index t 0 * 20 + 1 * (j 0).val = ((j 0 : Fin 20)).val; rw [h0]; omega
    | ⟨1, _⟩ => show win0_6.index t 1 * 256 + 1 * (j 1).val = ((out (prv t) (j 1))).val; rw [h1]; simp [out]; omega
  · rw [V_main_v5]
    exact turn _ _ _

/-- The block of window 7. -/
theorem iblk_7 (t : Fin cfg0.N) : (iblk m c 7 t : Vec Ideal S1536x256 .bf16) = yOf (m ((c : Thread nD τ).loc main_arg5)) (prv t) := by
  funext j
  obtain ⟨h0, h1⟩ := index_7 t
  unfold iblk
  rw [View.read_apply]
  show V m c main_v6 _ = _
  refine (congrArg (V m c main_v6) (?_ : _ = ix2 (j 0 : Fin 1536) (out (prv t) (j 1)))).trans ?_
  · funext a
    apply Fin.ext
    match a with
    | ⟨0, _⟩ => show win0_7.index t 0 * 1536 + 1 * (j 0).val = ((j 0 : Fin 1536)).val; rw [h0]; omega
    | ⟨1, _⟩ => show win0_7.index t 1 * 256 + 1 * (j 1).val = ((out (prv t) (j 1))).val; rw [h1]; simp [out]; omega
  · rw [V_main_v6]
    exact merge5 _ _ _

end Cert.Sweep

end
-- ==== Proof.Sweep.lean ====
/- What the buffers hold after every grid step, from what the step reads. -/
module

public import proofs.«01_k».proof.Proof.OutsA
public import proofs.«01_k».proof.Proof.OutsB
public import proofs.«01_k».proof.Proof.OutsC
public import proofs.«01_k».proof.Proof.Blocks

@[expose] public section

set_option maxRecDepth 16384

noncomputable section

namespace Cert.Sweep

open Cert.KernelIdeal Cert.KernelIdeal.Gen Idealize.ShloMosaic Idealize.ShloMosaic.TcCoe Idealize.SL.Sem Cert.Tile

variable (m : (ℓ : Loc nD τ sig) → Buf (Elt Ideal) ℓ) (c : Dev nD)

/-- The codes after a step. -/
theorem at_11 (t : Fin cfg0.N) : (outsAt0 m c t.val t.isLt).2.2.2.1 = arr2 (codesT (iblk m c 2 t) (iblk m c 3 t) (iblk m c 4 t)) := by
  have hN : cfg0.N = 28 := N_0
  have ht := t.isLt
  rcases Nat.eq_zero_or_pos t.val with h | h
  · refine (congrArg (fun z => z.2.2.2.1) (outsAt0_A m c t (by omega) (by omega) (by omega))).trans ?_; dsimp only; exact out0_A_11_eq ..
  · by_cases h2 : t.val % 28 = 27
    · refine (congrArg (fun z => z.2.2.2.1) (outsAt0_C m c t (by omega) h h2)).trans ?_; dsimp only; exact out0_C_11_eq ..
    · refine (congrArg (fun z => z.2.2.2.1) (outsAt0_B m c t (by omega) h h2)).trans ?_; dsimp only; exact out0_B_11_eq ..

/-- The steps after a step. -/
theorem at_12 (t : Fin cfg0.N) : (outsAt0 m c t.val t.isLt).2.2.2.2.1 = arr2 (hT (iblk m c 2 t) (iblk m c 3 t) (iblk m c 4 t)) := by
  have hN : cfg0.N = 28 := N_0
  have ht := t.isLt
  rcases Nat.eq_zero_or_pos t.val with h | h
  · refine (congrArg (fun z => z.2.2.2.2.1) (outsAt0_A m c t (by omega) (by omega) (by omega))).trans ?_; dsimp only; exact out0_A_12_eq ..
  · by_cases h2 : t.val % 28 = 27
    · refine (congrArg (fun z => z.2.2.2.2.1) (outsAt0_C m c t (by omega) h h2)).trans ?_; dsimp only; exact out0_C_12_eq ..
    · refine (congrArg (fun z => z.2.2.2.2.1) (outsAt0_B m c t (by omega) h h2)).trans ?_; dsimp only; exact out0_B_12_eq ..

/-- The zero points after a step. -/
theorem at_13 (t : Fin cfg0.N) : (outsAt0 m c t.val t.isLt).2.2.2.2.2.1 = arr2 (zT (iblk m c 2 t) (iblk m c 3 t) (iblk m c 4 t)) := by
  have hN : cfg0.N = 28 := N_0
  have ht := t.isLt
  rcases Nat.eq_zero_or_pos t.val with h | h
  · refine (congrArg (fun z => z.2.2.2.2.2.1) (outsAt0_A m c t (by omega) (by omega) (by omega))).trans ?_; dsimp only; exact out0_A_13_eq ..
  · by_cases h2 : t.val % 28 = 27
    · refine (congrArg (fun z => z.2.2.2.2.2.1) (outsAt0_C m c t (by omega) h h2)).trans ?_; dsimp only; exact out0_C_13_eq ..
    · refine (congrArg (fun z => z.2.2.2.2.2.1) (outsAt0_B m c t (by omega) h h2)).trans ?_; dsimp only; exact out0_B_13_eq ..

/-- The dequantised weights after a step. -/
theorem at_s3 (t : Fin cfg0.N) : (outsAt0 m c t.val t.isLt).2.2.2.2.2.2.2.2.2.1 = arr2 (whatT (iblk m c 2 t) (iblk m c 3 t) (iblk m c 4 t)) := by
  have hN : cfg0.N = 28 := N_0
  have ht := t.isLt
  rcases Nat.eq_zero_or_pos t.val with h | h
  · refine (congrArg (fun z => z.2.2.2.2.2.2.2.2.2.1) (outsAt0_A m c t (by omega) (by omega) (by omega))).trans ?_; dsimp only; exact sout0_A_3_eq ..
  · by_cases h2 : t.val % 28 = 27
    · refine (congrArg (fun z => z.2.2.2.2.2.2.2.2.2.1) (outsAt0_C m c t (by omega) h h2)).trans ?_; dsimp only; exact sout0_C_3_eq ..
    · refine (congrArg (fun z => z.2.2.2.2.2.2.2.2.2.1) (outsAt0_B m c t (by omega) h h2)).trans ?_; dsimp only; exact sout0_B_3_eq ..

/-- The derivatives after a step. -/
theorem at_s4 (t : Fin cfg0.N) : (outsAt0 m c t.val t.isLt).2.2.2.2.2.2.2.2.2.2.1 = arr2 (dwT (iblk m c 2 t) (iblk m c 3 t) (iblk m c 4 t)) := by
  have hN : cfg0.N = 28 := N_0
  have ht := t.isLt
  rcases Nat.eq_zero_or_pos t.val with h | h
  · refine (congrArg (fun z => z.2.2.2.2.2.2.2.2.2.2.1) (outsAt0_A m c t (by omega) (by omega) (by omega))).trans ?_; dsimp only; exact sout0_A_4_eq ..
  · by_cases h2 : t.val % 28 = 27
    · refine (congrArg (fun z => z.2.2.2.2.2.2.2.2.2.2.1) (outsAt0_C m c t (by omega) h h2)).trans ?_; dsimp only; exact sout0_C_4_eq ..
    · refine (congrArg (fun z => z.2.2.2.2.2.2.2.2.2.2.1) (outsAt0_B m c t (by omega) h h2)).trans ?_; dsimp only; exact sout0_B_4_eq ..

/-- The largest weights after a step. -/
theorem at_s5 (t : Fin cfg0.N) : (outsAt0 m c t.val t.isLt).2.2.2.2.2.2.2.2.2.2.2.1 = arr2 (maxT (iblk m c 2 t)) := by
  have hN : cfg0.N = 28 := N_0
  have ht := t.isLt
  rcases Nat.eq_zero_or_pos t.val with h | h
  · refine (congrArg (fun z => z.2.2.2.2.2.2.2.2.2.2.2.1) (outsAt0_A m c t (by omega) (by omega) (by omega))).trans ?_; dsimp only; exact sout0_A_5_eq ..
  · by_cases h2 : t.val % 28 = 27
    · refine (congrArg (fun z => z.2.2.2.2.2.2.2.2.2.2.2.1) (outsAt0_C m c t (by omega) h h2)).trans ?_; dsimp only; exact sout0_C_5_eq ..
    · refine (congrArg (fun z => z.2.2.2.2.2.2.2.2.2.2.2.1) (outsAt0_B m c t (by omega) h h2)).trans ?_; dsimp only; exact sout0_B_5_eq ..

/-- The smallest weights after a step. -/
theorem at_s6 (t : Fin cfg0.N) : (outsAt0 m c t.val t.isLt).2.2.2.2.2.2.2.2.2.2.2.2.1 = arr2 (minT (iblk m c 2 t)) := by
  have hN : cfg0.N = 28 := N_0
  have ht := t.isLt
  rcases Nat.eq_zero_or_pos t.val with h | h
  · refine (congrArg (fun z => z.2.2.2.2.2.2.2.2.2.2.2.2.1) (outsAt0_A m c t (by omega) (by omega) (by omega))).trans ?_; dsimp only; exact sout0_A_6_eq ..
  · by_cases h2 : t.val % 28 = 27
    · refine (congrArg (fun z => z.2.2.2.2.2.2.2.2.2.2.2.2.1) (outsAt0_C m c t (by omega) h h2)).trans ?_; dsimp only; exact sout0_C_6_eq ..
    · refine (congrArg (fun z => z.2.2.2.2.2.2.2.2.2.2.2.2.1) (outsAt0_B m c t (by omega) h h2)).trans ?_; dsimp only; exact sout0_B_6_eq ..

/-- The codes of x after the first step. -/
theorem first_s0 (t : Fin cfg0.N) (h : t.val = 0) : (outsAt0 m c t.val t.isLt).2.2.2.2.2.2.1 = arr2 (xbT (iblk m c 0 t)) := by
  refine (congrArg (fun z => z.2.2.2.2.2.2.1) (outsAt0_A m c t (by omega) (by omega) (by omega))).trans ?_; dsimp only; exact sout0_A_0_eq ..

/-- The transposed codes of x after the first step. -/
theorem first_s1 (t : Fin cfg0.N) (h : t.val = 0) : (outsAt0 m c t.val t.isLt).2.2.2.2.2.2.2.1 = arr2 (xtT (iblk m c 0 t)) := by
  refine (congrArg (fun z => z.2.2.2.2.2.2.2.1) (outsAt0_A m c t (by omega) (by omega) (by omega))).trans ?_; dsimp only; exact sout0_A_1_eq ..

/-- The tokens' scales after the first step. -/
theorem first_s2 (t : Fin cfg0.N) (h : t.val = 0) : (outsAt0 m c t.val t.isLt).2.2.2.2.2.2.2.2.1 = arr2 (srT (iblk m c 1 t)) := by
  refine (congrArg (fun z => z.2.2.2.2.2.2.2.2.1) (outsAt0_A m c t (by omega) (by omega) (by omega))).trans ?_; dsimp only; exact sout0_A_2_eq ..

/-- The accumulator after the first step. -/
theorem first_s8 (t : Fin cfg0.N) (h : t.val = 0) : (outsAt0 m c t.val t.isLt).2.2.2.2.2.2.2.2.2.2.2.2.2 = arr2 (fun _ _ => (0 : EReal)) := by
  refine (congrArg (fun z => z.2.2.2.2.2.2.2.2.2.2.2.2.2) (outsAt0_A m c t (by omega) (by omega) (by omega))).trans ?_; dsimp only; exact sout0_A_8_eq ..

/-- A later step keeps the codes of x. -/
theorem next_s0 (t : Fin cfg0.N) (h : 1 ≤ t.val) : (outsAt0 m c t.val t.isLt).2.2.2.2.2.2.1 = (outsAt0 m c (t.val - 1) (Nat.lt_of_le_of_lt (Nat.sub_le _ _) t.isLt)).2.2.2.2.2.2.1 := by
  have hN : cfg0.N = 28 := N_0
  have ht := t.isLt
  by_cases h2 : t.val % 28 = 27
  · exact congrArg (fun z => z.2.2.2.2.2.2.1) (outsAt0_C m c t (by omega) h h2)
  · exact congrArg (fun z => z.2.2.2.2.2.2.1) (outsAt0_B m c t (by omega) h h2)

/-- A later step keeps the transposed codes of x. -/
theorem next_s1 (t : Fin cfg0.N) (h : 1 ≤ t.val) : (outsAt0 m c t.val t.isLt).2.2.2.2.2.2.2.1 = (outsAt0 m c (t.val - 1) (Nat.lt_of_le_of_lt (Nat.sub_le _ _) t.isLt)).2.2.2.2.2.2.2.1 := by
  have hN : cfg0.N = 28 := N_0
  have ht := t.isLt
  by_cases h2 : t.val % 28 = 27
  · exact congrArg (fun z => z.2.2.2.2.2.2.2.1) (outsAt0_C m c t (by omega) h h2)
  · exact congrArg (fun z => z.2.2.2.2.2.2.2.1) (outsAt0_B m c t (by omega) h h2)

/-- A later step keeps the tokens' scales. -/
theorem next_s2 (t : Fin cfg0.N) (h : 1 ≤ t.val) : (outsAt0 m c t.val t.isLt).2.2.2.2.2.2.2.2.1 = (outsAt0 m c (t.val - 1) (Nat.lt_of_le_of_lt (Nat.sub_le _ _) t.isLt)).2.2.2.2.2.2.2.2.1 := by
  have hN : cfg0.N = 28 := N_0
  have ht := t.isLt
  by_cases h2 : t.val % 28 = 27
  · exact congrArg (fun z => z.2.2.2.2.2.2.2.2.1) (outsAt0_C m c t (by omega) h h2)
  · exact congrArg (fun z => z.2.2.2.2.2.2.2.2.1) (outsAt0_B m c t (by omega) h h2)

/-- The gradient in the upper parameter after a later step. -/
theorem next_8 (t : Fin cfg0.N) (h : 1 ≤ t.val) : (outsAt0 m c t.val t.isLt).1 = arr2 (dgT ((outsAt0 m c (t.val - 1) (Nat.lt_of_le_of_lt (Nat.sub_le _ _) t.isLt)).2.2.2.2.2.2.2.1) (arr2 (eT ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) (iblk m c 7 t))) ((outsAt0 m c (t.val - 1) (Nat.lt_of_le_of_lt (Nat.sub_le _ _) t.isLt)).2.2.2.2.2.2.2.2.2.2.1) (iblk m c 5 t) ((outsAt0 m c (t.val - 1) (Nat.lt_of_le_of_lt (Nat.sub_le _ _) t.isLt)).2.2.2.2.2.2.2.2.2.2.2.1)) := by
  have hN : cfg0.N = 28 := N_0
  have ht := t.isLt
  by_cases h2 : t.val % 28 = 27
  · refine (congrArg (fun z => z.1) (outsAt0_C m c t (by omega) h h2)).trans ?_; dsimp only; exact out0_C_8_eq ..
  · refine (congrArg (fun z => z.1) (outsAt0_B m c t (by omega) h h2)).trans ?_; dsimp only; exact out0_B_8_eq ..

/-- The gradient in the lower parameter after a later step. -/
theorem next_9 (t : Fin cfg0.N) (h : 1 ≤ t.val) : (outsAt0 m c t.val t.isLt).2.1 = arr2 (dbT ((outsAt0 m c (t.val - 1) (Nat.lt_of_le_of_lt (Nat.sub_le _ _) t.isLt)).2.2.2.2.2.2.2.1) (arr2 (eT ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) (iblk m c 7 t))) ((outsAt0 m c (t.val - 1) (Nat.lt_of_le_of_lt (Nat.sub_le _ _) t.isLt)).2.2.2.2.2.2.2.2.2.2.1) (iblk m c 6 t) ((outsAt0 m c (t.val - 1) (Nat.lt_of_le_of_lt (Nat.sub_le _ _) t.isLt)).2.2.2.2.2.2.2.2.2.2.2.2.1)) := by
  have hN : cfg0.N = 28 := N_0
  have ht := t.isLt
  by_cases h2 : t.val % 28 = 27
  · refine (congrArg (fun z => z.2.1) (outsAt0_C m c t (by omega) h h2)).trans ?_; dsimp only; exact out0_C_9_eq ..
  · refine (congrArg (fun z => z.2.1) (outsAt0_B m c t (by omega) h h2)).trans ?_; dsimp only; exact out0_B_9_eq ..

/-- The accumulator after a later step. -/
theorem next_s8 (t : Fin cfg0.N) (h : 1 ≤ t.val) : (outsAt0 m c t.val t.isLt).2.2.2.2.2.2.2.2.2.2.2.2.2 = arr2 (accT ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) (iblk m c 7 t) ((outsAt0 m c (t.val - 1) (Nat.lt_of_le_of_lt (Nat.sub_le _ _) t.isLt)).2.2.2.2.2.2.2.2.2.2.2.2.2)) := by
  have hN : cfg0.N = 28 := N_0
  have ht := t.isLt
  by_cases h2 : t.val % 28 = 27
  · refine (congrArg (fun z => z.2.2.2.2.2.2.2.2.2.2.2.2.2) (outsAt0_C m c t (by omega) h h2)).trans ?_; dsimp only; exact sout0_C_8_eq ..
  · refine (congrArg (fun z => z.2.2.2.2.2.2.2.2.2.2.2.2.2) (outsAt0_B m c t (by omega) h h2)).trans ?_; dsimp only; exact sout0_B_8_eq ..

/-- The loss after the last step. -/
theorem last_10 (t : Fin cfg0.N) (h2 : t.val % 28 = 27) : (outsAt0 m c t.val t.isLt).2.2.1 = arr2 (lossT (arr2 (accT ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) (iblk m c 7 t) ((outsAt0 m c (t.val - 1) (Nat.lt_of_le_of_lt (Nat.sub_le _ _) t.isLt)).2.2.2.2.2.2.2.2.2.2.2.2.2)))) := by
  refine (congrArg (fun z => z.2.2.1) (outsAt0_C m c t (by omega) (by omega) h2)).trans ?_; dsimp only; exact out0_C_10_eq ..

end Cert.Sweep

end
-- ==== Proof.State.lean ====
/- What the buffers hold after every grid step, from the argument arrays. -/
module

public import proofs.«01_k».proof.Proof.Sweep

@[expose] public section

set_option maxRecDepth 16384

noncomputable section

namespace Cert.Sweep

open Cert.KernelIdeal Cert.KernelIdeal.Gen Idealize.ShloMosaic Idealize.ShloMosaic.TcCoe Idealize.SL.Sem Cert.Tile

section Tiles

variable (a0 : Vec Ideal S6x256x2560 .fp8e4m3) (a1 : Vec Ideal S6x256 .f32) (a2 : Vec Ideal S6912x2560 .f32)
  (a3 a4 : Vec Ideal S6912x20 .f32) (a5 : Vec Ideal S6x256x6912 .bf16)

/-- The codes of x as numbers. -/
def xbP : Vec Ideal S1536x2560 .bf16 := arr2 (xbT (xOf a0))

/-- The same transposed. -/
def xtP : Vec Ideal S2560x1536 .bf16 := arr2 (xtT (xOf a0))

/-- The tokens' scales along the lanes. -/
def srP : Vec Ideal S1536x128 .f32 := arr2 (srT (sOf a1))

/-- The dequantised weights of tile `p`. -/
def whatP (p : Fin 27) : Vec Ideal S2560x256 .bf16 := arr2 (whatT (wOf a2 p) (gOf a3 p) (gOf a4 p))

/-- The derivatives of the dequantised weights of tile `p` in the step. -/
def dwP (p : Fin 27) : Vec Ideal S2560x256 .f32 := arr2 (dwT (wOf a2 p) (gOf a3 p) (gOf a4 p))

/-- The largest weights of the groups of tile `p`. -/
def maxP (p : Fin 27) : Vec Ideal S20x256 .f32 := arr2 (maxT (wOf a2 p))

/-- The smallest weights of the groups of tile `p`. -/
def minP (p : Fin 27) : Vec Ideal S20x256 .f32 := arr2 (minT (wOf a2 p))

/-- The errors of the outputs of tile `p` times the tokens' scales. -/
def eP (p : Fin 27) : Vec Ideal S1536x256 .bf16 := arr2 (eT (xbP a0) (srP a1) (whatP a2 a3 a4 p) (yOf a5 p))

/-- The tile of a number, the last one for a number past it. -/
def til (n : ℕ) : Fin 27 := ⟨min n 26, by omega⟩

/-- The accumulator after the first `n` tiles. -/
def accP : ℕ → Vec Ideal S8x256 .f32
  | 0 => arr2 fun _ _ => (0 : EReal)
  | n + 1 => arr2 (accT (xbP a0) (srP a1) (whatP a2 a3 a4 (til n)) (yOf a5 (til n)) (accP n))

end Tiles

variable (m : (ℓ : Loc nD τ sig) → Buf (Elt Ideal) ℓ) (c : Dev nD)

/-- The codes after a step. -/
theorem full_11 (t : Fin cfg0.N) : (outsAt0 m c t.val t.isLt).2.2.2.1 = (arr2 (codesT (wOf (m ((c : Thread nD τ).loc main_arg2)) (nxt t)) (gOf (m ((c : Thread nD τ).loc main_arg3)) (nxt t)) (gOf (m ((c : Thread nD τ).loc main_arg4)) (nxt t)))) := by
  refine (at_11 m c t).trans ?_
  rw [iblk_2, iblk_3, iblk_4]

/-- The steps after a step. -/
theorem full_12 (t : Fin cfg0.N) : (outsAt0 m c t.val t.isLt).2.2.2.2.1 = (arr2 (hT (wOf (m ((c : Thread nD τ).loc main_arg2)) (nxt t)) (gOf (m ((c : Thread nD τ).loc main_arg3)) (nxt t)) (gOf (m ((c : Thread nD τ).loc main_arg4)) (nxt t)))) := by
  refine (at_12 m c t).trans ?_
  rw [iblk_2, iblk_3, iblk_4]

/-- The zero points after a step. -/
theorem full_13 (t : Fin cfg0.N) : (outsAt0 m c t.val t.isLt).2.2.2.2.2.1 = (arr2 (zT (wOf (m ((c : Thread nD τ).loc main_arg2)) (nxt t)) (gOf (m ((c : Thread nD τ).loc main_arg3)) (nxt t)) (gOf (m ((c : Thread nD τ).loc main_arg4)) (nxt t)))) := by
  refine (at_13 m c t).trans ?_
  rw [iblk_2, iblk_3, iblk_4]

/-- The dequantised weights after a step. -/
theorem full_s3 (t : Fin cfg0.N) : (outsAt0 m c t.val t.isLt).2.2.2.2.2.2.2.2.2.1 = whatP (m ((c : Thread nD τ).loc main_arg2)) (m ((c : Thread nD τ).loc main_arg3)) (m ((c : Thread nD τ).loc main_arg4)) (nxt t) := by
  refine (at_s3 m c t).trans ?_
  rw [iblk_2, iblk_3, iblk_4]
  rfl

/-- The derivatives after a step. -/
theorem full_s4 (t : Fin cfg0.N) : (outsAt0 m c t.val t.isLt).2.2.2.2.2.2.2.2.2.2.1 = dwP (m ((c : Thread nD τ).loc main_arg2)) (m ((c : Thread nD τ).loc main_arg3)) (m ((c : Thread nD τ).loc main_arg4)) (nxt t) := by
  refine (at_s4 m c t).trans ?_
  rw [iblk_2, iblk_3, iblk_4]
  rfl

/-- The largest weights after a step. -/
theorem full_s5 (t : Fin cfg0.N) : (outsAt0 m c t.val t.isLt).2.2.2.2.2.2.2.2.2.2.2.1 = maxP (m ((c : Thread nD τ).loc main_arg2)) (nxt t) := by
  refine (at_s5 m c t).trans ?_
  rw [iblk_2]
  rfl

/-- The smallest weights after a step. -/
theorem full_s6 (t : Fin cfg0.N) : (outsAt0 m c t.val t.isLt).2.2.2.2.2.2.2.2.2.2.2.2.1 = minP (m ((c : Thread nD τ).loc main_arg2)) (nxt t) := by
  refine (at_s6 m c t).trans ?_
  rw [iblk_2]
  rfl

/-- What the steps carry: x's codes, the same transposed, the scales, and the accumulator. -/
theorem carry : ∀ (n : ℕ) (h : n < cfg0.N), (outsAt0 m c n h).2.2.2.2.2.2.1 = xbP (m ((c : Thread nD τ).loc main_arg0)) ∧ (outsAt0 m c n h).2.2.2.2.2.2.2.1 = xtP (m ((c : Thread nD τ).loc main_arg0))
    ∧ (outsAt0 m c n h).2.2.2.2.2.2.2.2.1 = srP (m ((c : Thread nD τ).loc main_arg1)) ∧ (outsAt0 m c n h).2.2.2.2.2.2.2.2.2.2.2.2.2 = accP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n
  | 0, h => by
    refine ⟨(first_s0 m c ⟨0, h⟩ rfl).trans ?_, (first_s1 m c ⟨0, h⟩ rfl).trans ?_, (first_s2 m c ⟨0, h⟩ rfl).trans ?_, (first_s8 m c ⟨0, h⟩ rfl).trans ?_⟩
    · rw [iblk_0]; rfl
    · rw [iblk_0]; rfl
    · rw [iblk_1]; rfl
    · rfl
  | n + 1, h => by
    have hN : cfg0.N = 28 := N_0
    have hn : n < cfg0.N := Nat.lt_of_succ_lt h
    obtain ⟨i0, i1, i2, i8⟩ := carry n hn
    refine ⟨(next_s0 m c ⟨n + 1, h⟩ (Nat.succ_pos n)).trans i0, (next_s1 m c ⟨n + 1, h⟩ (Nat.succ_pos n)).trans i1,
      (next_s2 m c ⟨n + 1, h⟩ (Nat.succ_pos n)).trans i2, (next_s8 m c ⟨n + 1, h⟩ (Nat.succ_pos n)).trans ?_⟩
    have i3 := full_s3 m c ⟨n, hn⟩
    have hp : nxt ⟨n, hn⟩ = til n := rfl
    have hq : prv ⟨n + 1, h⟩ = til n := Fin.ext (by show n + 1 - 1 = min n 26; omega)
    rw [iblk_7, hq]
    rw [hp] at i3
    show arr2 (accT ((outsAt0 m c n hn).2.2.2.2.2.2.1) ((outsAt0 m c n hn).2.2.2.2.2.2.2.2.1) ((outsAt0 m c n hn).2.2.2.2.2.2.2.2.2.1) _ ((outsAt0 m c n hn).2.2.2.2.2.2.2.2.2.2.2.2.2)) = _
    rw [i0, i2, i8]
    exact congrArg (fun w => arr2 (accT _ _ w _ _)) i3

/-- The gradient in the upper parameter after a later step. -/
theorem full_8 (t : Fin cfg0.N) (h : 1 ≤ t.val) : (outsAt0 m c t.val t.isLt).1 = arr2 (dgT (xtP (m ((c : Thread nD τ).loc main_arg0))) (eP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (prv t)) (dwP (m ((c : Thread nD τ).loc main_arg2)) (m ((c : Thread nD τ).loc main_arg3)) (m ((c : Thread nD τ).loc main_arg4)) (prv t)) (gOf (m ((c : Thread nD τ).loc main_arg3)) (prv t)) (maxP (m ((c : Thread nD τ).loc main_arg2)) (prv t))) := by
  refine (next_8 m c t h).trans ?_
  have hN : cfg0.N = 28 := N_0
  have ht := t.isLt
  have hn : t.val - 1 < cfg0.N := by omega
  obtain ⟨i0, i1, i2, i8⟩ := carry m c (t.val - 1) hn
  have hp : nxt ⟨t.val - 1, hn⟩ = prv t := Fin.ext (by show min (t.val - 1) 26 = t.val - 1; omega)
  have i3 := full_s3 m c ⟨t.val - 1, hn⟩
  have i4 := full_s4 m c ⟨t.val - 1, hn⟩
  have i5 := full_s5 m c ⟨t.val - 1, hn⟩
  rw [hp] at i3 i4 i5
  rw [iblk_7, iblk_5, i0, i1, i2]
  unfold eP
  generalize xbP _ = X, xtP _ = Y, srP _ = S at *
  have j3 := congrArg (fun z => arr2 (eT X S z (yOf (m ((c : Thread nD τ).loc main_arg5)) (prv t)))) i3
  dsimp only at j3 i3 i4 i5 ⊢
  rw [j3, i4, i5]

/-- The gradient in the lower parameter after a later step. -/
theorem full_9 (t : Fin cfg0.N) (h : 1 ≤ t.val) : (outsAt0 m c t.val t.isLt).2.1 = arr2 (dbT (xtP (m ((c : Thread nD τ).loc main_arg0))) (eP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (prv t)) (dwP (m ((c : Thread nD τ).loc main_arg2)) (m ((c : Thread nD τ).loc main_arg3)) (m ((c : Thread nD τ).loc main_arg4)) (prv t)) (gOf (m ((c : Thread nD τ).loc main_arg4)) (prv t)) (minP (m ((c : Thread nD τ).loc main_arg2)) (prv t))) := by
  refine (next_9 m c t h).trans ?_
  have hN : cfg0.N = 28 := N_0
  have ht := t.isLt
  have hn : t.val - 1 < cfg0.N := by omega
  obtain ⟨i0, i1, i2, i8⟩ := carry m c (t.val - 1) hn
  have hp : nxt ⟨t.val - 1, hn⟩ = prv t := Fin.ext (by show min (t.val - 1) 26 = t.val - 1; omega)
  have i3 := full_s3 m c ⟨t.val - 1, hn⟩
  have i4 := full_s4 m c ⟨t.val - 1, hn⟩
  have i5 := full_s6 m c ⟨t.val - 1, hn⟩
  rw [hp] at i3 i4 i5
  rw [iblk_7, iblk_6, i0, i1, i2]
  unfold eP
  generalize xbP _ = X, xtP _ = Y, srP _ = S at *
  have j3 := congrArg (fun z => arr2 (eT X S z (yOf (m ((c : Thread nD τ).loc main_arg5)) (prv t)))) i3
  dsimp only at j3 i3 i4 i5 ⊢
  rw [j3, i4, i5]

/-- The loss after the last step. -/
theorem full_10 (t : Fin cfg0.N) (h : t.val % 28 = 27) : (outsAt0 m c t.val t.isLt).2.2.1 = arr2 (lossT (accP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 27)) := by
  have hN : cfg0.N = 28 := N_0
  have ht := t.isLt
  have h1 : 1 ≤ t.val := by omega
  have h27 : t.val = 27 := by omega
  have e8 := (carry m c t.val ht).2.2.2.trans (congrArg (accP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) h27)
  refine (last_10 m c t h).trans ?_
  refine congrArg (fun z => arr2 (lossT z)) (Eq.trans ?_ e8)
  refine (next_s8 m c t h1).symm.trans ?_
  congr 1

end Cert.Sweep

end
-- ==== Proof.Arrays.lean ====
/- What the six result arrays hold at the end of the run. -/
module

public import proofs.«01_k».proof.Proof.State
public import Idealize.ShloMosaic.Lib.Pipeline.Value

@[expose] public section

set_option maxRecDepth 16384

noncomputable section

namespace Cert.Sweep

open Cert.KernelIdeal Cert.KernelIdeal.Gen Idealize.ShloMosaic Idealize.ShloMosaic.TcCoe Idealize.SL.Sem Cert.Tile

/-- The tile of an output. -/
def tl (o : Fin 6912) : Fin 27 := ⟨o.val / 256, by omega⟩

/-- The place of an output in its tile. -/
def pl (o : Fin 6912) : Fin 256 := ⟨o.val % 256, by omega⟩

theorem tl_out (p : Fin 27) (o : Fin 256) : tl (out p o) = p := Fin.ext (by simp only [tl, out]; omega)

theorem pl_out (p : Fin 27) (o : Fin 256) : pl (out p o) = o := Fin.ext (by simp only [pl, out]; omega)

theorem out_tl (o : Fin 6912) : out (tl o) (pl o) = o := Fin.ext (by simp only [tl, pl, out]; omega)

/-- An entry of an array put together from tiles of columns. -/
theorem glueC {α : Type} (T : Fin 27 → S20x256.Idx → α) (p : Fin 27) (j : S20x256.Idx) :
    T p j = T (tl (out p (j 1))) (ix2 (j 0 : Fin 20) (pl (out p (j 1)))) := by
  have aux (a : Fin 20) (o : Fin 256) : T p (ix2 a o) = T (tl (out p o)) (ix2 a (pl (out p o))) := by rw [tl_out, pl_out]
  exact (congrArg (T p) (eq_ix2 (n0 := 20) (n1 := 256) j)).trans (aux (j 0) (j 1))

/-- An entry of an array put together from tiles of rows. -/
theorem glueR {α : Type} (T : Fin 27 → S256x2560.Idx → α) (p : Fin 27) (j : S256x2560.Idx) :
    T p j = T (tl (out p (j 0))) (ix2 (pl (out p (j 0))) (j 1 : Fin 2560)) := by
  have aux (o : Fin 256) (d : Fin 2560) : T p (ix2 o d) = T (tl (out p o)) (ix2 (pl (out p o)) d) := by rw [tl_out, pl_out]
  exact (congrArg (T p) (eq_ix2 (n0 := 256) (n1 := 2560) j)).trans (aux (j 0) (j 1))

/-- The grid step that ends with tile `p`'s gradients. -/
def gradStep (p : Fin 27) : Fin grid0.N := ⟨p.val + 1, by have : grid0.N = 28 := N_0; omega⟩

/-- The grid step that writes tile `p` back: the last tile is held until the last step. -/
def fillStep (p : Fin 27) : Fin grid0.N := ⟨if p.val = 26 then 27 else p.val, by have : grid0.N = 28 := N_0; split <;> omega⟩

theorem index_8 : ∀ t : Fin grid0.N, win0_8.index t 0 = 0 ∧ win0_8.index t 1 = (prv t).val := by decide +kernel
theorem index_9 : ∀ t : Fin grid0.N, win0_9.index t 0 = 0 ∧ win0_9.index t 1 = (prv t).val := by decide +kernel
theorem index_10 : ∀ t : Fin grid0.N, win0_10.index t 0 = 0 ∧ win0_10.index t 1 = 0 := by decide +kernel
theorem index_11 : ∀ t : Fin grid0.N, win0_11.index t 0 = (nxt t).val ∧ win0_11.index t 1 = 0 := by decide +kernel
theorem index_12 : ∀ t : Fin grid0.N, win0_12.index t 0 = 0 ∧ win0_12.index t 1 = (nxt t).val := by decide +kernel
theorem index_13 : ∀ t : Fin grid0.N, win0_13.index t 0 = 0 ∧ win0_13.index t 1 = (nxt t).val := by decide +kernel
theorem flush_8 : ∀ t : Fin grid0.N, win0_8.flush t = true ↔ 1 ≤ t.val := by decide +kernel
theorem flush_9 : ∀ t : Fin grid0.N, win0_9.flush t = true ↔ 1 ≤ t.val := by decide +kernel
theorem flush_11 : ∀ p : Fin 27, win0_11.flush (fillStep p) = true := by decide +kernel
theorem flush_12 : ∀ p : Fin 27, win0_12.flush (fillStep p) = true := by decide +kernel
theorem flush_13 : ∀ p : Fin 27, win0_13.flush (fillStep p) = true := by decide +kernel
theorem prv_gradStep (p : Fin 27) : prv (gradStep p) = p := Fin.ext (by simp only [prv, gradStep]; omega)
theorem nxt_fillStep (p : Fin 27) : nxt (fillStep p) = p := Fin.ext (by simp only [nxt, fillStep]; split <;> omega)

variable (m : (ℓ : Loc nD τ sig) → Buf (Elt Ideal) ℓ) (c : Dev nD)

/-- What a step writes back to window 8's array. -/
theorem flushed_8 (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- What a step writes back to window 9's array. -/
theorem flushed_9 (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- What a step writes back to window 10's array. -/
theorem flushed_10 (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- What a step writes back to window 11's array. -/
theorem flushed_11 (t : Fin cfg0.N) :
    (dats m 0 c).flushed 11 t = (cfg0.win 11).cut (grid0.coords t) ((outsAt0 m c t.val t.isLt).2.2.2.1) := by
  show (cfg0.win 11).cut (grid0.coords t) ((dats m 0 c).after 11 t) = _
  rw [after0_11]

/-- What a step writes back to window 12's array. -/
theorem flushed_12 (t : Fin cfg0.N) :
    (dats m 0 c).flushed 12 t = (cfg0.win 12).cut (grid0.coords t) ((outsAt0 m c t.val t.isLt).2.2.2.2.1) := by
  show (cfg0.win 12).cut (grid0.coords t) ((dats m 0 c).after 12 t) = _
  rw [after0_12]

/-- What a step writes back to window 13's array. -/
theorem flushed_13 (t : Fin cfg0.N) :
    (dats m 0 c).flushed 13 t = (cfg0.win 13).cut (grid0.coords t) ((outsAt0 m c t.val t.isLt).2.2.2.2.2.1) := by
  show (cfg0.win 13).cut (grid0.coords t) ((dats m 0 c).after 13 t) = _
  rw [after0_13]

/-- The gradients in the upper parameter of tile `p`. -/
def tile_8 (p : Fin 27) : Vec Ideal S20x256 .f32 := arr2 (dgT (xtP (m ((c : Thread nD τ).loc main_arg0))) (eP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p) (dwP (m ((c : Thread nD τ).loc main_arg2)) (m ((c : Thread nD τ).loc main_arg3)) (m ((c : Thread nD τ).loc main_arg4)) p) (gOf (m ((c : Thread nD τ).loc main_arg3)) p) (maxP (m ((c : Thread nD τ).loc main_arg2)) p))

/-- The gradients in the upper parameter. -/
def res_8 : Vec Ideal S20x6912 .f32 := arr2 fun g o => tile_8 m c (tl o) (ix2 g (pl o))

theorem flushed_eq_8 (t : Fin cfg0.N) (hf : (cfg0.win 8).flush t = true) :
    (dats m 0 c).flushed 8 t = ((cfg0.win 8).blk t).view.read (Elt Ideal) (res_8 m c) := by
  obtain ⟨h0, h1⟩ := index_8 t
  rw [flushed_8]
  have e : (outsAt0 m c t.val t.isLt).1 = tile_8 m c (prv t) := full_8 m c t ((flush_8 t).mp hf)
  rw [e]
  funext j
  rw [View.read_apply]
  refine Eq.trans ?_ (congrArg (res_8 m c) (?_ : ix2 (j 0 : Fin 20) (out (prv t) (j 1)) = _))
  · exact glueC (tile_8 m c) (prv t) j
  · funext a
    apply Fin.ext
    match a with
    | ⟨0, _⟩ => show (j 0).val = win0_8.index t 0 * 20 + 1 * (j 0).val; rw [h0]; omega
    | ⟨1, _⟩ => show (out (prv t) (j 1)).val = win0_8.index t 1 * 256 + 1 * (j 1).val; rw [h1]; simp only [out]; omega

theorem final_8 : (dats m 0 c).arrAt 8 cfg0.N = res_8 m c :=
  (dats m 0 c).arrAt_eq_of_cover 8 (res_8 m c) (flushed_eq_8 m c) fun i =>
    ⟨gradStep (tl (i 1)), (flush_8 _).mpr (Nat.succ_pos _), by
      show i ∈ ((View.whole main_v7_0).slice (win0_8.rect (gradStep (tl (i 1))))).set
      rw [View.set_slice_whole, Rect.mem_set_unit]
      intro a
      obtain ⟨h0, h1⟩ := index_8 (gradStep (tl (i 1)))
      rw [prv_gradStep] at h1
      have l0 : (i 0 : Nat) < 20 := (i 0).isLt
      have l1 : (i 1 : Nat) < 6912 := (i 1).isLt
      match a with
      | ⟨0, _⟩ =>
        show win0_8.index (gradStep (tl (i 1))) 0 * 20 ≤ (i 0 : Nat) ∧ (i 0 : Nat) < win0_8.index (gradStep (tl (i 1))) 0 * 20 + 20
        rw [h0]; omega
      | ⟨1, _⟩ =>
        show win0_8.index (gradStep (tl (i 1))) 1 * 256 ≤ (i 1 : Nat) ∧ (i 1 : Nat) < win0_8.index (gradStep (tl (i 1))) 1 * 256 + 256
        rw [h1]; simp only [tl]; omega⟩

/-- The gradients in the lower parameter of tile `p`. -/
def tile_9 (p : Fin 27) : Vec Ideal S20x256 .f32 := arr2 (dbT (xtP (m ((c : Thread nD τ).loc main_arg0))) (eP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p) (dwP (m ((c : Thread nD τ).loc main_arg2)) (m ((c : Thread nD τ).loc main_arg3)) (m ((c : Thread nD τ).loc main_arg4)) p) (gOf (m ((c : Thread nD τ).loc main_arg4)) p) (minP (m ((c : Thread nD τ).loc main_arg2)) p))

/-- The gradients in the lower parameter. -/
def res_9 : Vec Ideal S20x6912 .f32 := arr2 fun g o => tile_9 m c (tl o) (ix2 g (pl o))

theorem flushed_eq_9 (t : Fin cfg0.N) (hf : (cfg0.win 9).flush t = true) :
    (dats m 0 c).flushed 9 t = ((cfg0.win 9).blk t).view.read (Elt Ideal) (res_9 m c) := by
  obtain ⟨h0, h1⟩ := index_9 t
  rw [flushed_9]
  have e : (outsAt0 m c t.val t.isLt).2.1 = tile_9 m c (prv t) := full_9 m c t ((flush_9 t).mp hf)
  rw [e]
  funext j
  rw [View.read_apply]
  refine Eq.trans ?_ (congrArg (res_9 m c) (?_ : ix2 (j 0 : Fin 20) (out (prv t) (j 1)) = _))
  · exact glueC (tile_9 m c) (prv t) j
  · funext a
    apply Fin.ext
    match a with
    | ⟨0, _⟩ => show (j 0).val = win0_9.index t 0 * 20 + 1 * (j 0).val; rw [h0]; omega
    | ⟨1, _⟩ => show (out (prv t) (j 1)).val = win0_9.index t 1 * 256 + 1 * (j 1).val; rw [h1]; simp only [out]; omega

theorem final_9 : (dats m 0 c).arrAt 9 cfg0.N = res_9 m c :=
  (dats m 0 c).arrAt_eq_of_cover 9 (res_9 m c) (flushed_eq_9 m c) fun i =>
    ⟨gradStep (tl (i 1)), (flush_9 _).mpr (Nat.succ_pos _), by
      show i ∈ ((View.whole main_v7_1).slice (win0_9.rect (gradStep (tl (i 1))))).set
      rw [View.set_slice_whole, Rect.mem_set_unit]
      intro a
      obtain ⟨h0, h1⟩ := index_9 (gradStep (tl (i 1)))
      rw [prv_gradStep] at h1
      have l0 : (i 0 : Nat) < 20 := (i 0).isLt
      have l1 : (i 1 : Nat) < 6912 := (i 1).isLt
      match a with
      | ⟨0, _⟩ =>
        show win0_9.index (gradStep (tl (i 1))) 0 * 20 ≤ (i 0 : Nat) ∧ (i 0 : Nat) < win0_9.index (gradStep (tl (i 1))) 0 * 20 + 20
        rw [h0]; omega
      | ⟨1, _⟩ =>
        show win0_9.index (gradStep (tl (i 1))) 1 * 256 ≤ (i 1 : Nat) ∧ (i 1 : Nat) < win0_9.index (gradStep (tl (i 1))) 1 * 256 + 256
        rw [h1]; simp only [tl]; omega⟩

/-- The codes of tile `p`. -/
def tile_11 (p : Fin 27) : Vec Ideal S256x2560 .i8 := arr2 (codesT (wOf (m ((c : Thread nD τ).loc main_arg2)) p) (gOf (m ((c : Thread nD τ).loc main_arg3)) p) (gOf (m ((c : Thread nD τ).loc main_arg4)) p))

/-- The codes. -/
def res_11 : Vec Ideal S6912x2560 .i8 := arr2 fun o d => tile_11 m c (tl o) (ix2 (pl o) d)

theorem flushed_eq_11 (t : Fin cfg0.N) (_hf : (cfg0.win 11).flush t = true) :
    (dats m 0 c).flushed 11 t = ((cfg0.win 11).blk t).view.read (Elt Ideal) (res_11 m c) := by
  obtain ⟨h0, h1⟩ := index_11 t
  rw [flushed_11]
  have e : (outsAt0 m c t.val t.isLt).2.2.2.1 = tile_11 m c (nxt t) := full_11 m c t
  rw [e]
  funext j
  rw [View.read_apply]
  refine Eq.trans ?_ (congrArg (res_11 m c) (?_ : ix2 (out (nxt t) (j 0)) (j 1 : Fin 2560) = _))
  · exact glueR (tile_11 m c) (nxt t) j
  · funext a
    apply Fin.ext
    match a with
    | ⟨0, _⟩ => show (out (nxt t) (j 0)).val = win0_11.index t 0 * 256 + 1 * (j 0).val; rw [h0]; simp only [out]; omega
    | ⟨1, _⟩ => show (j 1).val = win0_11.index t 1 * 2560 + 1 * (j 1).val; rw [h1]; omega

theorem final_11 : (dats m 0 c).arrAt 11 cfg0.N = res_11 m c :=
  (dats m 0 c).arrAt_eq_of_cover 11 (res_11 m c) (flushed_eq_11 m c) fun i =>
    ⟨fillStep (tl (i 0)), flush_11 _, by
      show i ∈ ((View.whole main_v7_3).slice (win0_11.rect (fillStep (tl (i 0))))).set
      rw [View.set_slice_whole, Rect.mem_set_unit]
      intro a
      obtain ⟨h0, h1⟩ := index_11 (fillStep (tl (i 0)))
      rw [nxt_fillStep] at h0
      have l0 : (i 0 : Nat) < 6912 := (i 0).isLt
      have l1 : (i 1 : Nat) < 2560 := (i 1).isLt
      match a with
      | ⟨0, _⟩ =>
        show win0_11.index (fillStep (tl (i 0))) 0 * 256 ≤ (i 0 : Nat) ∧ (i 0 : Nat) < win0_11.index (fillStep (tl (i 0))) 0 * 256 + 256
        rw [h0]; simp only [tl]; omega
      | ⟨1, _⟩ =>
        show win0_11.index (fillStep (tl (i 0))) 1 * 2560 ≤ (i 1 : Nat) ∧ (i 1 : Nat) < win0_11.index (fillStep (tl (i 0))) 1 * 2560 + 2560
        rw [h1]; omega⟩

/-- The steps of tile `p`. -/
def tile_12 (p : Fin 27) : Vec Ideal S20x256 .f32 := arr2 (hT (wOf (m ((c : Thread nD τ).loc main_arg2)) p) (gOf (m ((c : Thread nD τ).loc main_arg3)) p) (gOf (m ((c : Thread nD τ).loc main_arg4)) p))

/-- The steps. -/
def res_12 : Vec Ideal S20x6912 .f32 := arr2 fun g o => tile_12 m c (tl o) (ix2 g (pl o))

theorem flushed_eq_12 (t : Fin cfg0.N) (_hf : (cfg0.win 12).flush t = true) :
    (dats m 0 c).flushed 12 t = ((cfg0.win 12).blk t).view.read (Elt Ideal) (res_12 m c) := by
  obtain ⟨h0, h1⟩ := index_12 t
  rw [flushed_12]
  have e : (outsAt0 m c t.val t.isLt).2.2.2.2.1 = tile_12 m c (nxt t) := full_12 m c t
  rw [e]
  funext j
  rw [View.read_apply]
  refine Eq.trans ?_ (congrArg (res_12 m c) (?_ : ix2 (j 0 : Fin 20) (out (nxt t) (j 1)) = _))
  · exact glueC (tile_12 m c) (nxt t) j
  · funext a
    apply Fin.ext
    match a with
    | ⟨0, _⟩ => show (j 0).val = win0_12.index t 0 * 20 + 1 * (j 0).val; rw [h0]; omega
    | ⟨1, _⟩ => show (out (nxt t) (j 1)).val = win0_12.index t 1 * 256 + 1 * (j 1).val; rw [h1]; simp only [out]; omega

theorem final_12 : (dats m 0 c).arrAt 12 cfg0.N = res_12 m c :=
  (dats m 0 c).arrAt_eq_of_cover 12 (res_12 m c) (flushed_eq_12 m c) fun i =>
    ⟨fillStep (tl (i 1)), flush_12 _, by
      show i ∈ ((View.whole main_v7_4).slice (win0_12.rect (fillStep (tl (i 1))))).set
      rw [View.set_slice_whole, Rect.mem_set_unit]
      intro a
      obtain ⟨h0, h1⟩ := index_12 (fillStep (tl (i 1)))
      rw [nxt_fillStep] at h1
      have l0 : (i 0 : Nat) < 20 := (i 0).isLt
      have l1 : (i 1 : Nat) < 6912 := (i 1).isLt
      match a with
      | ⟨0, _⟩ =>
        show win0_12.index (fillStep (tl (i 1))) 0 * 20 ≤ (i 0 : Nat) ∧ (i 0 : Nat) < win0_12.index (fillStep (tl (i 1))) 0 * 20 + 20
        rw [h0]; omega
      | ⟨1, _⟩ =>
        show win0_12.index (fillStep (tl (i 1))) 1 * 256 ≤ (i 1 : Nat) ∧ (i 1 : Nat) < win0_12.index (fillStep (tl (i 1))) 1 * 256 + 256
        rw [h1]; simp only [tl]; omega⟩

/-- The zero points of tile `p`. -/
def tile_13 (p : Fin 27) : Vec Ideal S20x256 .f32 := arr2 (zT (wOf (m ((c : Thread nD τ).loc main_arg2)) p) (gOf (m ((c : Thread nD τ).loc main_arg3)) p) (gOf (m ((c : Thread nD τ).loc main_arg4)) p))

/-- The zero points. -/
def res_13 : Vec Ideal S20x6912 .f32 := arr2 fun g o => tile_13 m c (tl o) (ix2 g (pl o))

theorem flushed_eq_13 (t : Fin cfg0.N) (_hf : (cfg0.win 13).flush t = true) :
    (dats m 0 c).flushed 13 t = ((cfg0.win 13).blk t).view.read (Elt Ideal) (res_13 m c) := by
  obtain ⟨h0, h1⟩ := index_13 t
  rw [flushed_13]
  have e : (outsAt0 m c t.val t.isLt).2.2.2.2.2.1 = tile_13 m c (nxt t) := full_13 m c t
  rw [e]
  funext j
  rw [View.read_apply]
  refine Eq.trans ?_ (congrArg (res_13 m c) (?_ : ix2 (j 0 : Fin 20) (out (nxt t) (j 1)) = _))
  · exact glueC (tile_13 m c) (nxt t) j
  · funext a
    apply Fin.ext
    match a with
    | ⟨0, _⟩ => show (j 0).val = win0_13.index t 0 * 20 + 1 * (j 0).val; rw [h0]; omega
    | ⟨1, _⟩ => show (out (nxt t) (j 1)).val = win0_13.index t 1 * 256 + 1 * (j 1).val; rw [h1]; simp only [out]; omega

theorem final_13 : (dats m 0 c).arrAt 13 cfg0.N = res_13 m c :=
  (dats m 0 c).arrAt_eq_of_cover 13 (res_13 m c) (flushed_eq_13 m c) fun i =>
    ⟨fillStep (tl (i 1)), flush_13 _, by
      show i ∈ ((View.whole main_v7_5).slice (win0_13.rect (fillStep (tl (i 1))))).set
      rw [View.set_slice_whole, Rect.mem_set_unit]
      intro a
      obtain ⟨h0, h1⟩ := index_13 (fillStep (tl (i 1)))
      rw [nxt_fillStep] at h1
      have l0 : (i 0 : Nat) < 20 := (i 0).isLt
      have l1 : (i 1 : Nat) < 6912 := (i 1).isLt
      match a with
      | ⟨0, _⟩ =>
        show win0_13.index (fillStep (tl (i 1))) 0 * 20 ≤ (i 0 : Nat) ∧ (i 0 : Nat) < win0_13.index (fillStep (tl (i 1))) 0 * 20 + 20
        rw [h0]; omega
      | ⟨1, _⟩ =>
        show win0_13.index (fillStep (tl (i 1))) 1 * 256 ≤ (i 1 : Nat) ∧ (i 1 : Nat) < win0_13.index (fillStep (tl (i 1))) 1 * 256 + 256
        rw [h1]; simp only [tl]; omega⟩

/-- The loss. -/
def res_10 : Vec Ideal S1x1 .f32 := arr2 (lossT (accP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 27))

theorem flushed_eq_10 (t : Fin cfg0.N) (hf : (cfg0.win 10).flush t = true) :
    (dats m 0 c).flushed 10 t = ((cfg0.win 10).blk t).view.read (Elt Ideal) (res_10 m c) := by
  obtain ⟨h0, h1⟩ := index_10 t
  rw [flushed_10]
  have e : (outsAt0 m c t.val t.isLt).2.2.1 = _ := full_10 m c t ((flush0_10 t).mp hf)
  rw [e]
  funext j
  rw [View.read_apply]
  rfl

theorem final_10 : (dats m 0 c).arrAt 10 cfg0.N = res_10 m c :=
  (dats m 0 c).arrAt_eq_of_cover 10 (res_10 m c) (flushed_eq_10 m c) fun i =>
    ⟨gradStep 26, (flush0_10 _).mpr rfl, by
      show i ∈ ((View.whole main_v7_2).slice (win0_10.rect (gradStep 26))).set
      rw [View.set_slice_whole, Rect.mem_set_unit]
      intro a
      obtain ⟨h0, h1⟩ := index_10 (gradStep 26)
      have l0 : (i 0 : Nat) < 1 := (i 0).isLt
      have l1 : (i 1 : Nat) < 1 := (i 1).isLt
      match a with
      | ⟨0, _⟩ =>
        show win0_10.index (gradStep 26) 0 * 1 ≤ (i 0 : Nat) ∧ (i 0 : Nat) < win0_10.index (gradStep 26) 0 * 1 + 1
        rw [h0]; omega
      | ⟨1, _⟩ =>
        show win0_10.index (gradStep 26) 1 * 1 ≤ (i 1 : Nat) ∧ (i 1 : Nat) < win0_10.index (gradStep 26) 1 * 1 + 1
        rw [h1]; omega⟩

end Cert.Sweep

end
-- ==== Proof.Run.lean ====
/- The kernel's run: its results, four of them transposed after the call and the loss being the one entry of the loss
   array, and its arguments unchanged. -/
module

public import proofs.«01_k».proof.Proof.Arrays

@[expose] public section

set_option maxRecDepth 16384

noncomputable section

namespace Cert.Sweep

open Cert.KernelIdeal Cert.KernelIdeal.Gen Idealize.ShloMosaic Idealize.ShloMosaic.TcCoe Idealize.SL.Sem

variable (m : (ℓ : Loc nD τ sig) → Buf (Elt Ideal) ℓ) (c : Dev nD) (ρ : Dev nD → PrngReg)

/-- Each window has its own array. -/
theorem arrays_inj : Function.Injective (Pipeline.arrRef spec0) := by decide

/-- A result array after the call. -/
theorem array (w : Fin 14) :
    Pipeline.withArrays (cfgs 0).spec c (V0 m c) (fun w => (dats m 0 c).arrAt w cfg0.N) (Proc.devRef .tc (Pipeline.arrRef spec0 w))
      = (dats m 0 c).arrAt w cfg0.N :=
  Pipeline.withArrays_arr spec0 arrays_inj c _ _ w

/-- The gradients in the upper parameter, after the lines that follow the call. -/
theorem tail_8 : Pipeline.afterTail₀ cfgs (dats m) 0 (V0 m) [hostOps1] c main_v8
    = transpose S6912x20 [1, 0] (res_8 m c) transposes_S20x6912_S6912x20_1_0 := by
  unfold Pipeline.afterTail₀
  after_results
  exact congrArg (fun x => transpose S6912x20 [1, 0] x transposes_S20x6912_S6912x20_1_0) ((array m c 8).trans (final_8 m c))

/-- The gradients in the lower parameter, after the lines that follow the call. -/
theorem tail_9 : Pipeline.afterTail₀ cfgs (dats m) 0 (V0 m) [hostOps1] c main_v9
    = transpose S6912x20 [1, 0] (res_9 m c) transposes_S20x6912_S6912x20_1_0 := by
  unfold Pipeline.afterTail₀
  after_results
  exact congrArg (fun x => transpose S6912x20 [1, 0] x transposes_S20x6912_S6912x20_1_0) ((array m c 9).trans (final_9 m c))

/-- The loss, after the lines that follow the call. -/
theorem tail_10 : Pipeline.afterTail₀ cfgs (dats m) 0 (V0 m) [hostOps1] c main_v10
    = shapeCast S_ (res_10 m c) shapeCasts_S1x1_S_ := by
  unfold Pipeline.afterTail₀
  after_results
  exact congrArg (fun x => shapeCast S_ x shapeCasts_S1x1_S_) ((array m c 10).trans (final_10 m c))

/-- The steps, after the lines that follow the call. -/
theorem tail_12 : Pipeline.afterTail₀ cfgs (dats m) 0 (V0 m) [hostOps1] c main_v11
    = transpose S6912x20 [1, 0] (res_12 m c) transposes_S20x6912_S6912x20_1_0 := by
  unfold Pipeline.afterTail₀
  after_results
  exact congrArg (fun x => transpose S6912x20 [1, 0] x transposes_S20x6912_S6912x20_1_0) ((array m c 12).trans (final_12 m c))

/-- The zero points, after the lines that follow the call. -/
theorem tail_13 : Pipeline.afterTail₀ cfgs (dats m) 0 (V0 m) [hostOps1] c main_v12
    = transpose S6912x20 [1, 0] (res_13 m c) transposes_S20x6912_S6912x20_1_0 := by
  unfold Pipeline.afterTail₀
  after_results
  exact congrArg (fun x => transpose S6912x20 [1, 0] x transposes_S20x6912_S6912x20_1_0) ((array m c 13).trans (final_13 m c))

/-- The kernel's run. -/
theorem run : θ_run defs (onTc (τ := τ) (main (F := Ideal))) ⟨m, fun _ => 0, ρ⟩ (fun r => ∀ c : Dev nD,
      r.2.mem ((c.tc : Thread nD τ).loc main_v8) = transpose S6912x20 [1, 0] (res_8 m c) transposes_S20x6912_S6912x20_1_0
      ∧ r.2.mem ((c.tc : Thread nD τ).loc main_v9) = transpose S6912x20 [1, 0] (res_9 m c) transposes_S20x6912_S6912x20_1_0
      ∧ r.2.mem ((c.tc : Thread nD τ).loc main_v10) = shapeCast S_ (res_10 m c) shapeCasts_S1x1_S_
      ∧ r.2.mem ((c.tc : Thread nD τ).loc main_v7_3) = res_11 m c
      ∧ r.2.mem ((c.tc : Thread nD τ).loc main_v11) = transpose S6912x20 [1, 0] (res_12 m c) transposes_S20x6912_S6912x20_1_0
      ∧ r.2.mem ((c.tc : Thread nD τ).loc main_v12) = transpose S6912x20 [1, 0] (res_13 m c) transposes_S20x6912_S6912x20_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v8 (Pipeline.mem_restRefs_of main_v8 (by decide) (by decide))).trans (tail_8 m c),
      ((h.1 c).2 main_v9 (Pipeline.mem_restRefs_of main_v9 (by decide) (by decide))).trans (tail_9 m c),
      ((h.1 c).2 main_v10 (Pipeline.mem_restRefs_of main_v10 (by decide) (by decide))).trans (tail_10 m c),
      ((h.1 c).1 11).trans (final_11 m c),
      ((h.1 c).2 main_v11 (Pipeline.mem_restRefs_of main_v11 (by decide) (by decide))).trans (tail_12 m c),
      ((h.1 c).2 main_v12 (Pipeline.mem_restRefs_of main_v12 (by decide) (by decide))).trans (tail_13 m c), h.2 c⟩)
    (θ_run_and (run_main m ρ) (unchanged m ρ))

end Cert.Sweep

end
-- ==== Proof.Number.lean ====
/- Facts of the quantiser's numbers: the clipped code is one of the integers 0, …, 15, so a trip through bytes gives it
   back; the mask of the codes that were not clipped; and multiplication by the gradient's factor goes through a sum. -/
module

public import proofs.«01_k».proof.Proof.Quant

@[expose] public section

set_option maxRecDepth 16384

noncomputable section

namespace Cert.Quant

open Idealize.ShloMosaic

theorem top_eq : top = ((15 : ℝ) : EReal) := by
  simp [top, Ideal.ofBits, Ideal.ieee]
  rw [← EReal.coe_mul]
  norm_num

theorem scale_coe : ∃ r : ℝ, 0 ≤ r ∧ scale = (r : EReal) := by
  refine ⟨(1 : ℝ) * (2 ^ 23 + (4867464 : ℕ) : ℕ) * (2 : ℝ) ^ ((104 : ℤ) - 127 - 23), by positivity, ?_⟩
  simp [scale, Ideal.ofBits, Ideal.ieee]

/-- An extended real that is an infinity or an integer. -/
def Whole (x : EReal) : Prop := x = ⊥ ∨ x = ⊤ ∨ ∃ n : ℤ, x = ((n : ℝ) : EReal)

theorem whole_round (x : EReal) : Whole (round x) := by
  unfold round
  induction x with
  | bot => exact .inl rfl
  | top => exact .inr (.inl rfl)
  | coe r => exact .inr (.inr ⟨_, rfl⟩)

theorem whole_add {x y : EReal} (hx : Whole x) (hy : Whole y) : Whole (x + y) := by
  rcases hx with rfl | rfl | ⟨a, rfl⟩
  · exact .inl (EReal.bot_add y)
  · rcases hy with rfl | rfl | ⟨b, rfl⟩
    · exact .inl (EReal.add_bot _)
    · exact .inr (.inl rfl)
    · exact .inr (.inl (EReal.top_add_coe _))
  · rcases hy with rfl | rfl | ⟨b, rfl⟩
    · exact .inl (EReal.add_bot _)
    · exact .inr (.inl (EReal.coe_add_top _))
    · exact .inr (.inr ⟨a + b, by push_cast; rfl⟩)

theorem whole_neg {x : EReal} (hx : Whole x) : Whole (0 - x) := by
  rcases hx with rfl | rfl | ⟨a, rfl⟩
  · exact .inr (.inl (by simp))
  · exact .inl (by simp)
  · exact .inr (.inr ⟨-a, by simp⟩)

variable (γ β M N w : EReal)

theorem whole_c : Whole (c γ β M N w) := whole_add (whole_round _) (whole_neg (whole_round _))

/-- The clipped code is one of 0, …, 15. -/
theorem q_nat : ∃ n : ℕ, n ≤ 15 ∧ q γ β M N w = ((n : ℝ) : EReal) := by
  unfold q
  rw [top_eq]
  rcases whole_c γ β M N w with h | h | ⟨a, h⟩
  · exact ⟨0, by omega, by rw [h]; simp⟩
  · exact ⟨15, by omega, by rw [h]; simp⟩
  · refine ⟨(min 15 (max 0 a)).toNat, by omega, ?_⟩
    rw [h]
    have e : (((min 15 (max 0 a)).toNat : ℕ) : ℝ) = min 15 (max 0 (a : ℝ)) := by
      have : (((min 15 (max 0 a)).toNat : ℕ) : ℤ) = min 15 (max 0 a) := Int.toNat_of_nonneg (by omega)
      have := congrArg (fun z : ℤ => (z : ℝ)) this
      push_cast at this
      exact this
    rw [e]
    have h0 : (0 : EReal) = ((0 : ℝ) : EReal) := rfl
    rw [h0]
    rcases le_total (a : ℝ) 0 with l | l
    · rw [max_eq_left l, max_eq_left (EReal.coe_le_coe_iff.2 l), min_eq_right (EReal.coe_le_coe_iff.2 (by norm_num : (0 : ℝ) ≤ 15)), min_eq_right (by norm_num : (0 : ℝ) ≤ 15)]
    · rw [max_eq_right l, max_eq_right (EReal.coe_le_coe_iff.2 l)]
      rcases le_total (a : ℝ) 15 with k | k
      · rw [min_eq_right k, min_eq_right (EReal.coe_le_coe_iff.2 k)]
      · rw [min_eq_left k, min_eq_left (EReal.coe_le_coe_iff.2 k)]

theorem clamp_nat (w : ℕ) (n : ℕ) (hn : n ≤ 15) (hw : (15 : ℤ) ≤ (2 ^ (w - 1) : ℕ) - 1) :
    Ideal.toIntClamped (-(2 ^ (w - 1) : ℕ)) ((2 ^ (w - 1) : ℕ) - 1) ((n : ℝ) : EReal) = n := by
  show max _ (min _ (if (0 : ℝ) ≤ (n : ℝ) then ⌊(n : ℝ)⌋ else ⌈(n : ℝ)⌉)) = _
  rw [if_pos (Nat.cast_nonneg n), Int.floor_natCast]
  omega

/-- The clipped code as a byte. -/
def byte : BitVec 8 := FloatOps.fptosi (F := Ideal) (φ := .f32) 8 (q γ β M N w)

/-- A byte read back as a number is the clipped code. -/
theorem byte_back : FloatOps.sitofp (F := Ideal) .f32 (byte γ β M N w) = q γ β M N w := by
  obtain ⟨n, hn, hq⟩ := q_nat γ β M N w
  show (((Ideal.fptosi 8 (q γ β M N w)).toInt : ℝ) : EReal) = _
  rw [hq]
  unfold Ideal.fptosi
  rw [clamp_nat 8 n hn (by norm_num)]
  have : (BitVec.ofInt 8 (n : ℤ)).toInt = n := by
    interval_cases n <;> rfl
  rw [this]
  simp

/-- The code through 32 and 16 bits is the byte. -/
theorem code_eq : code γ β M N w = byte γ β M N w := by
  obtain ⟨n, hn, hq⟩ := q_nat γ β M N w
  unfold code byte
  show BitVec.setWidth 8 (BitVec.setWidth 16 (Ideal.fptosi 32 (q γ β M N w))) = Ideal.fptosi 8 (q γ β M N w)
  rw [hq]
  unfold Ideal.fptosi
  rw [clamp_nat 8 n hn (by norm_num), clamp_nat 32 n hn (by norm_num)]
  interval_cases n <;> rfl

/-- A code is left alone by the clipping where it lies between 0 and 15. -/
theorem q_eq_iff : q γ β M N w = c γ β M N w ↔ 0 ≤ c γ β M N w ∧ c γ β M N w ≤ top := by
  unfold q
  generalize c γ β M N w = x
  have ht : (0 : EReal) ≤ top := by rw [top_eq]; exact EReal.coe_nonneg.2 (by norm_num)
  constructor
  · intro h
    rw [← h]
    exact ⟨le_min ht (le_max_left _ _), min_le_left _ _⟩
  · rintro ⟨h0, h1⟩
    rw [max_eq_right h0, min_eq_right h1]

/-- The mask of the codes that were not clipped, as a number, times the weight. -/
theorem mask_mul : FloatOps.sitofp (F := Ideal) .f32 (BitVec.setWidth 32 (IntOp.andi (BitVec.ofBool (decide (0 ≤ c γ β M N w)))
      (BitVec.ofBool (decide (c γ β M N w ≤ top))))) * u γ β M N w
    = if q γ β M N w = c γ β M N w then u γ β M N w else 0 := by
  by_cases h0 : 0 ≤ c γ β M N w
  · by_cases h1 : c γ β M N w ≤ top
    · rw [if_pos ((q_eq_iff γ β M N w).2 ⟨h0, h1⟩), decide_eq_true h0, decide_eq_true h1]
      have : FloatOps.sitofp (F := Ideal) .f32 (BitVec.setWidth 32 (IntOp.andi (BitVec.ofBool true) (BitVec.ofBool true))) = (1 : EReal) := by
        show (((1 : ℤ) : ℝ) : EReal) = 1
        simp
      rw [this, one_mul]
    · rw [if_neg (fun h => h1 ((q_eq_iff γ β M N w).1 h).2), decide_eq_true h0, decide_eq_false h1]
      have : FloatOps.sitofp (F := Ideal) .f32 (BitVec.setWidth 32 (IntOp.andi (BitVec.ofBool true) (BitVec.ofBool false))) = (0 : EReal) := by
        show (((0 : ℤ) : ℝ) : EReal) = 0
        simp
      rw [this, zero_mul]
  · rw [if_neg (fun h => h0 ((q_eq_iff γ β M N w).1 h).1), decide_eq_false h0]
    have (b : Bool) : FloatOps.sitofp (F := Ideal) .f32 (BitVec.setWidth 32 (IntOp.andi (BitVec.ofBool false) (BitVec.ofBool b))) = (0 : EReal) := by
      cases b <;>
      · show (((0 : ℤ) : ℝ) : EReal) = 0
        simp
    rw [this, zero_mul]

/-- The gradient's factor, taken inside a sum. -/
theorem sum_mul_scale {ι : Type} (t : Finset ι) (f : ι → EReal) : (∑ i ∈ t, f i) * scale = ∑ i ∈ t, f i * scale := by
  obtain ⟨r, hr, hs⟩ := scale_coe
  rw [hs]
  classical
  induction t using Finset.induction_on with
  | empty => simp
  | insert a t ha ih =>
    rw [Finset.sum_insert ha, Finset.sum_insert ha, EReal.right_distrib_of_nonneg_of_ne_top (EReal.coe_nonneg.2 hr) (EReal.coe_ne_top r), ih]

end Cert.Quant

end
-- ==== Proof.Ref.lean ====
/- The reference's values, entry by entry. -/
module

public import proofs.«01_k».proof.Proof.Gen.ReferenceIdeal.Skeleton
public import proofs.«01_k».proof.Proof.Number
public import proofs.«01_k».proof.Proof.Fill

@[expose] public section

set_option maxRecDepth 16384

noncomputable section

namespace Cert.Ref

open Cert.ReferenceIdeal Cert.ReferenceIdeal.Gen Idealize.ShloMosaic
open Cert.Tile (col grp)

/-- The place of a column in its group. -/
def plc (d : Fin 2560) : Fin 128 := ⟨d.val % 128, by omega⟩

variable (x : Vec Ideal S6x256x2560 .fp8e4m3) (s : Vec Ideal S6x256 .f32) (w : Vec Ideal S6912x2560 .f32)
  (γ β : Vec Ideal S6912x20 .f32) (y : Vec Ideal S6x256x6912 .bf16)

theorem pay3_apply (o : Fin 6912) (g : Fin 20) (k : Fin 128) : k0_pay3 w (ix3 o g k) = w (ix2 o (col g k)) := by
  have e : col g k = ⟨g.val * 128 + k.val, by omega⟩ := Fin.ext (by simp only [col]; omega)
  rw [e]
  unfold k0_pay3
  pointwise

/-- The largest weight of a group. -/
def mx (o : Fin 6912) (g : Fin 20) : EReal := Quant.largest fun k => w (ix2 o (col g k))

/-- The smallest weight of a group. -/
def mn (o : Fin 6912) (g : Fin 20) : EReal := Quant.smallest fun k => w (ix2 o (col g k))

theorem pay4_apply (o : Fin 6912) (g : Fin 20) : k0_pay4 w (ix2 o g) = mx w o g := by
  unfold k0_pay4 mx Quant.largest
  pointwise [pay3_apply]

theorem pay5_apply (o : Fin 6912) (g : Fin 20) : k0_pay5 w (ix2 o g) = mn w o g := by
  unfold k0_pay5 mn Quant.smallest
  pointwise [pay3_apply]

theorem pay6_apply (o : Fin 6912) (g : Fin 20) : k0_pay6 γ (ix2 o g) = Ideal.logistic (γ (ix2 o g)) := by
  unfold k0_pay6
  pointwise

theorem pay7_apply (o : Fin 6912) (g : Fin 20) : k0_pay7 β (ix2 o g) = Ideal.logistic (β (ix2 o g)) := by
  unfold k0_pay7
  pointwise

theorem pay8_apply (o : Fin 6912) (g : Fin 20) : k0_pay8 w β (ix2 o g) = Ideal.logistic (β (ix2 o g)) * mn w o g := by
  unfold k0_pay8
  pointwise [pay7_apply, pay5_apply]

theorem pay9_apply (o : Fin 6912) (g : Fin 20) : k0_pay9 w γ β (ix2 o g) = Quant.h (γ (ix2 o g)) (β (ix2 o g)) (mx w o g) (mn w o g) := by
  unfold k0_pay9 Quant.h Quant.h0 Quant.top
  pointwise [pay8_apply, pay6_apply, pay4_apply]

theorem pay10_apply (o : Fin 6912) (g : Fin 20) : k0_pay10 w γ β (ix2 o g) = Quant.z (γ (ix2 o g)) (β (ix2 o g)) (mx w o g) (mn w o g) := by
  unfold k0_pay10 Quant.z Quant.round
  pointwise [pay8_apply, pay9_apply]

theorem pay11_apply (o : Fin 6912) (g : Fin 20) (k : Fin 128) :
    k0_pay11 w γ β (ix3 o g k) = Quant.u (γ (ix2 o g)) (β (ix2 o g)) (mx w o g) (mn w o g) (w (ix2 o (col g k))) := by
  unfold k0_pay11 Quant.u
  pointwise [pay3_apply, pay9_apply]

theorem pay12_apply (o : Fin 6912) (g : Fin 20) (k : Fin 128) :
    k0_pay12 w γ β (ix3 o g k) = Quant.c (γ (ix2 o g)) (β (ix2 o g)) (mx w o g) (mn w o g) (w (ix2 o (col g k))) := by
  unfold k0_pay12 Quant.c Quant.round
  pointwise [pay10_apply, pay11_apply]

theorem pay13_apply (o : Fin 6912) (g : Fin 20) (k : Fin 128) :
    k0_pay13 w γ β (ix3 o g k) = Quant.byte (γ (ix2 o g)) (β (ix2 o g)) (mx w o g) (mn w o g) (w (ix2 o (col g k))) := by
  have z : (((0#32 : BitVec 32).toInt : ℝ) : EReal) = 0 := by simp
  unfold k0_pay13 Quant.byte Quant.q Quant.top
  pointwise [pay12_apply]
  rw [z]

theorem pay14_apply (o : Fin 6912) (g : Fin 20) (k : Fin 128) :
    k0_pay14 w γ β (ix3 o g k) = Quant.q (γ (ix2 o g)) (β (ix2 o g)) (mx w o g) (mn w o g) (w (ix2 o (col g k))) := by
  refine Eq.trans ?_ (Quant.byte_back _ _ _ _ _)
  rw [← pay13_apply]
  rfl

theorem pay15_apply (z : Vec Ideal S6912x20 .f32) (q : Vec Ideal S6912x20x128 .f32) (o : Fin 6912) (g : Fin 20) (k : Fin 128) :
    k0_pay15 (F := Ideal) z q (ix3 o g k) = q (ix3 o g k) - z (ix2 o g) := by
  unfold k0_pay15
  pointwise

theorem pay18_apply (h z : Vec Ideal S6912x20 .f32) (q : Vec Ideal S6912x20x128 .f32) (b : Fin 6) (p : Fin 256) (o : Fin 6912) :
    k0_pay18 (F := Ideal) x s y h z q (ix3 b p o)
      = (∑ d : Fin 2560, x (ix3 b p d) * ((q (ix3 o (grp d) (plc d)) - z (ix2 o (grp d))) * h (ix2 o (grp d)))) * s (ix2 b p) - y (ix3 b p o) := by
  unfold k0_pay18 k0_pay16 k0_pay17
  pointwise [pay15_apply, grp, plc]

theorem col_plc (d : Fin 2560) : col (grp d) (plc d) = d := Fin.ext (by simp only [col, grp, plc]; omega)

/-- The dequantised weight of an output and a column. -/
def wh (o : Fin 6912) (d : Fin 2560) : EReal :=
  Quant.what (γ (ix2 o (grp d))) (β (ix2 o (grp d))) (mx w o (grp d)) (mn w o (grp d)) (w (ix2 o d))

/-- The derivative of the dequantised weight of an output and a column in the step. -/
def dwh (o : Fin 6912) (d : Fin 2560) : EReal :=
  Quant.dw (γ (ix2 o (grp d))) (β (ix2 o (grp d))) (mx w o (grp d)) (mn w o (grp d)) (w (ix2 o d))

/-- The error of an output for a token. -/
def err (b : Fin 6) (p : Fin 256) (o : Fin 6912) : EReal :=
  (∑ d : Fin 2560, x (ix3 b p d) * wh w γ β o d) * s (ix2 b p) - y (ix3 b p o)

theorem err_eq (b : Fin 6) (p : Fin 256) (o : Fin 6912) :
    k0_pay18 x s y (k0_pay9 w γ β) (k0_pay10 w γ β) (k0_pay14 w γ β) (ix3 b p o) = err x s w γ β y b p o := by
  rw [pay18_apply]
  unfold err wh Quant.what Quant.qz
  simp only [pay14_apply, pay9_apply, pay10_apply, col_plc]

/-- The loss. -/
def lossR : EReal := Ideal.div (∑ b : Fin 6, ∑ p : Fin 256, ∑ o : Fin 6912, err x s w γ β y b p o * err x s w γ β y b p o) Quant.count

/-- A sum over the indices of an array with one slab is the sum over its three other coordinates. -/
theorem sum_idx4 {n1 n2 n3 : ℕ} (f : Fin n1 → Fin n2 → Fin n3 → EReal) :
    ∑ i : (⟨4, ![1, n1, n2, n3]⟩ : Shape).Idx, f (i 1) (i 2) (i 3) = ∑ b, ∑ p, ∑ o, f b p o := by
  let e : (⟨4, ![1, n1, n2, n3]⟩ : Shape).Idx ≃ Fin n1 × Fin n2 × Fin n3 :=
    { toFun := fun i => (i 1, i 2, i 3)
      invFun := fun t => ix4 (0 : Fin 1) t.1 t.2.1 t.2.2
      left_inv := fun i => by
        have h0 : (0 : Fin 1) = (i 0 : Fin 1) := Subsingleton.elim (α := Fin 1) _ _
        exact (congrArg (fun a : Fin 1 => ix4 a (i 1 : Fin n1) (i 2 : Fin n2) (i 3 : Fin n3)) h0).trans (eq_ix4 (n0 := 1) (n1 := n1) (n2 := n2) (n3 := n3) i).symm
      right_inv := fun _ => rfl }
  refine (Fintype.sum_equiv e _ (fun t => f t.1 t.2.1 t.2.2) (fun _ => rfl)).trans ?_
  simp only [Fintype.sum_prod_type]

theorem loss_eq : k0_pay19 x s y (k0_pay9 w γ β) (k0_pay10 w γ β) (k0_pay14 w γ β) = lossR x s w γ β y := by
  have he (b : Fin 6) (p : Fin 256) (o : Fin 6912) := err_eq x s w γ β y b p o
  unfold k0_pay19
  generalize k0_pay18 x s y (k0_pay9 w γ β) (k0_pay10 w γ β) (k0_pay14 w γ β) = e at *
  pointwise
  rw [Ideal.reduceAdd_total _ (by decide)]
  unfold lossR Quant.count
  congr 1
  pointwise
  refine Eq.trans ?_ (sum_idx4 fun b p o => err x s w γ β y b p o * err x s w γ β y b p o)
  exact Finset.sum_congr rfl fun i _ => congrArg₂ (· * ·) (he _ _ _) (he _ _ _)

theorem dwh_col (o : Fin 6912) (g : Fin 20) (k : Fin 128) : dwh w γ β o (col g k)
    = Quant.q (γ (ix2 o g)) (β (ix2 o g)) (mx w o g) (mn w o g) (w (ix2 o (col g k)))
      - Quant.z (γ (ix2 o g)) (β (ix2 o g)) (mx w o g) (mn w o g)
      - FloatOps.sitofp (F := Ideal) .f32 (BitVec.setWidth 32 (IntOp.andi
          (BitVec.ofBool (decide (0 ≤ Quant.c (γ (ix2 o g)) (β (ix2 o g)) (mx w o g) (mn w o g) (w (ix2 o (col g k))))))
          (BitVec.ofBool (decide (Quant.c (γ (ix2 o g)) (β (ix2 o g)) (mx w o g) (mn w o g) (w (ix2 o (col g k))) ≤ Ideal.ofBits FTy.f32 0x41700000#32)))))
        * Quant.u (γ (ix2 o g)) (β (ix2 o g)) (mx w o g) (mn w o g) (w (ix2 o (col g k))) := by
  have hm := Quant.mask_mul (γ (ix2 o g)) (β (ix2 o g)) (mx w o g) (mn w o g) (w (ix2 o (col g k)))
  unfold Quant.top at hm
  unfold dwh Quant.dw Quant.qz
  rw [Tile.grp_col, hm]

/-- The sum of a group's products of the weights' gradients with their derivatives in the step, scaled. -/
def sR (o : Fin 6912) (g : Fin 20) : EReal :=
  (∑ k : Fin 128, (∑ b : Fin 6, ∑ p : Fin 256, (err x s w γ β y b p o * s (ix2 b p)) * x (ix3 b p (col g k))) * dwh w γ β o (col g k)) * Quant.scale

theorem s_eq (o : Fin 6912) (g : Fin 20) :
    k0_pay20 x s y (k0_pay9 w γ β) (k0_pay10 w γ β) (k0_pay11 w γ β) (k0_pay12 w γ β) (k0_pay14 w γ β) (ix2 o g) = sR x s w γ β y o g := by
  have he (b : Fin 6) (p : Fin 256) (o : Fin 6912) := err_eq x s w γ β y b p o
  have ec (k : Fin 128) : (⟨g.val * 128 + k.val, by omega⟩ : Fin 2560) = col g k := Fin.ext (by simp only [col]; omega)
  unfold k0_pay20 k0_pay16 k0_pay17
  generalize k0_pay18 x s y (k0_pay9 w γ β) (k0_pay10 w γ β) (k0_pay14 w γ β) = e at *
  pointwise [pay15_apply, pay14_apply, pay10_apply, pay11_apply, pay12_apply]
  unfold sR
  rw [Quant.sum_mul_scale]
  refine Finset.sum_congr rfl fun k _ => ?_
  rw [ec, dwh_col]
  simp only [he]
  exact mul_right_comm _ _ _

/-- The gradient in the upper parameter. -/
def dgR (o : Fin 6912) (g : Fin 20) : EReal :=
  Ideal.div (sR x s w γ β y o g * (Ideal.logistic (γ (ix2 o g)) * (1 - Ideal.logistic (γ (ix2 o g))) * mx w o g)) Quant.top

theorem dg_eq (o : Fin 6912) (g : Fin 20) :
    k0_pay21 x s y (k0_pay4 w) (k0_pay6 γ) (k0_pay9 w γ β) (k0_pay10 w γ β) (k0_pay11 w γ β) (k0_pay12 w γ β) (k0_pay14 w γ β) (ix2 o g)
      = dgR x s w γ β y o g := by
  unfold k0_pay21 dgR Quant.top
  pointwise [s_eq, pay4_apply, pay6_apply]
  simp only [mul_assoc]

/-- The gradient in the lower parameter. -/
def dbR (o : Fin 6912) (g : Fin 20) : EReal :=
  Ideal.div ((0 - sR x s w γ β y o g) * (Ideal.logistic (β (ix2 o g)) * (1 - Ideal.logistic (β (ix2 o g))) * mn w o g)) Quant.top

theorem db_eq (o : Fin 6912) (g : Fin 20) :
    k0_pay1 (k0_pay5 w) (k0_pay7 β)
        (k0_pay20 x s y (k0_pay9 w γ β) (k0_pay10 w γ β) (k0_pay11 w γ β) (k0_pay12 w γ β) (k0_pay14 w γ β)) (ix2 o g)
      = dbR x s w γ β y o g := by
  unfold k0_pay1 dbR Quant.top
  pointwise [s_eq, pay5_apply, pay7_apply]
  simp only [mul_assoc]

theorem codes_eq (o : Fin 6912) (d : Fin 2560) :
    k0_pay2 (k0_pay13 w γ β) (ix2 o d)
      = Quant.code (γ (ix2 o (grp d))) (β (ix2 o (grp d))) (mx w o (grp d)) (mn w o (grp d)) (w (ix2 o d)) := by
  have e : k0_pay2 (k0_pay13 w γ β) (ix2 o d) = k0_pay13 w γ β (ix3 o (grp d) (plc d)) := by
    unfold k0_pay2
    pointwise [grp, plc]
  rw [e, pay13_apply, col_plc, Quant.code_eq]

end Cert.Ref

end
-- ==== Proof.RefOuts.lean ====
/- The reference's outputs as functions of its arguments. -/
module

public import proofs.«01_k».proof.Proof.Gen.ReferenceIdeal.Frame
public import proofs.«01_k».proof.Proof.Ref

@[expose] public section

set_option maxRecDepth 16384

noncomputable section

namespace Cert.Ref

open Cert.ReferenceIdeal Cert.ReferenceIdeal.Gen Idealize.ShloMosaic Idealize.SL.Sem
open Cert.Tile (col grp arr2)

theorem hz : (![0, 0] : Fin 2 → Nat) = fun _ => 0 := funext fun a => by fin_cases a <;> rfl

theorem hz3 : (![0, 0, 0] : Fin 3 → Nat) = fun _ => 0 := funext fun a => by fin_cases a <;> rfl

variable (c : Dev nD) (arg0 : Memref sig .tc .vmem S6x256x2560 .fp8e4m3) (harg0 : arg0.IsWhole) (arg1 : Memref sig .tc .vmem S6x256 .f32) (harg1 : arg1.IsWhole) (arg2 : Memref sig .tc .vmem S6912x2560 .f32) (harg2 : arg2.IsWhole) (arg3 : Memref sig .tc .vmem S6912x20 .f32) (harg3 : arg3.IsWhole) (arg4 : Memref sig .tc .vmem S6912x20 .f32) (harg4 : arg4.IsWhole) (arg5 : Memref sig .tc .vmem S6x256x6912 .bf16) (harg5 : arg5.IsWhole) (arg6 : Memref sig .tc .vmem S6912x20 .f32) (harg6 : arg6.IsWhole) (arg7 : Memref sig .tc .vmem S6912x20 .f32) (harg7 : arg7.IsWhole) (arg8 : Memref sig .tc .smem S1x1 .f32) (harg8 : arg8.IsWhole) (arg9 : Memref sig .tc .vmem S6912x2560 .i8) (harg9 : arg9.IsWhole) (arg10 : Memref sig .tc .vmem S6912x20 .f32) (harg10 : arg10.IsWhole) (arg11 : Memref sig .tc .vmem S6912x20 .f32) (harg11 : arg11.IsWhole)
    (x0 : Vec Ideal S6x256x2560 .fp8e4m3) (x1 : Vec Ideal S6x256 .f32) (x2 : Vec Ideal S6912x2560 .f32) (x3 : Vec Ideal S6912x20 .f32) (x4 : Vec Ideal S6912x20 .f32) (x5 : Vec Ideal S6x256x6912 .bf16)

/-- The gradients in the upper parameter. -/
theorem out0_A_6_pay : out0_A_6 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay21 x0 x1 x5 (k0_pay4 x2) (k0_pay6 x3) (k0_pay9 x2 x3 x4) (k0_pay10 x2 x3 x4) (k0_pay11 x2 x3 x4) (k0_pay12 x2 x3 x4) (k0_pay14 x2 x3 x4) := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero hz]
  sl_unfold_words
  simp only [View.readAt_eq_ld, Memref.IsWhole.read_unread, View.ld_unit_zero (S := S6x256x2560) hz3, View.ld_unit_zero (S := S6x256x6912) hz3, View.ld_unit_zero (S := S6x256) hz, View.ld_unit_zero (S := S6912x2560) hz, View.ld_unit_zero (S := S6912x20) hz]

/-- The gradients in the lower parameter. -/
theorem out0_A_7_pay : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay1 (k0_pay5 x2) (k0_pay7 x4) (k0_pay20 x0 x1 x5 (k0_pay9 x2 x3 x4) (k0_pay10 x2 x3 x4) (k0_pay11 x2 x3 x4) (k0_pay12 x2 x3 x4) (k0_pay14 x2 x3 x4)) := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero hz]
  sl_unfold_words
  simp only [View.readAt_eq_ld, Memref.IsWhole.read_unread, View.ld_unit_zero (S := S6x256x2560) hz3, View.ld_unit_zero (S := S6x256x6912) hz3, View.ld_unit_zero (S := S6x256) hz, View.ld_unit_zero (S := S6912x2560) hz, View.ld_unit_zero (S := S6912x20) hz]

/-- The loss. -/
theorem out0_A_8_pay : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = fun _ => k0_pay19 x0 x1 x5 (k0_pay9 x2 x3 x4) (k0_pay10 x2 x3 x4) (k0_pay14 x2 x3 x4) := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero hz]
  sl_unfold_words
  simp only [View.readAt_eq_ld, Memref.IsWhole.read_unread, View.ld_unit_zero (S := S6x256x2560) hz3, View.ld_unit_zero (S := S6x256x6912) hz3, View.ld_unit_zero (S := S6x256) hz, View.ld_unit_zero (S := S6912x2560) hz, View.ld_unit_zero (S := S6912x20) hz]
  rfl

/-- The codes. -/
theorem out0_A_9_pay : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay2 (k0_pay13 x2 x3 x4) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero hz]
  sl_unfold_words
  simp only [View.readAt_eq_ld, Memref.IsWhole.read_unread, View.ld_unit_zero (S := S6912x2560) hz, View.ld_unit_zero (S := S6912x20) hz]

/-- The steps. -/
theorem out0_A_10_pay : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay9 x2 x3 x4 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero hz]
  sl_unfold_words
  simp only [View.readAt_eq_ld, Memref.IsWhole.read_unread, View.ld_unit_zero (S := S6912x2560) hz, View.ld_unit_zero (S := S6912x20) hz]

/-- The zero points. -/
theorem out0_A_11_pay : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay10 x2 x3 x4 := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero hz]
  sl_unfold_words
  simp only [View.readAt_eq_ld, Memref.IsWhole.read_unread, View.ld_unit_zero (S := S6912x2560) hz, View.ld_unit_zero (S := S6912x20) hz]

/-- The gradients in the upper parameter, entry by entry. -/
theorem out0_A_6_eq : out0_A_6 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = arr2 (dgR x0 x1 x2 x3 x4 x5) := by
  rw [out0_A_6_pay]
  funext j
  rw [eq_ix2 (n0 := 6912) (n1 := 20) j]
  exact dg_eq x0 x1 x2 x3 x4 x5 (j 0) (j 1)

/-- The gradients in the lower parameter, entry by entry. -/
theorem out0_A_7_eq : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = arr2 (dbR x0 x1 x2 x3 x4 x5) := by
  rw [out0_A_7_pay]
  funext j
  rw [eq_ix2 (n0 := 6912) (n1 := 20) j]
  exact db_eq x0 x1 x2 x3 x4 x5 (j 0) (j 1)

/-- The codes, entry by entry. -/
theorem out0_A_9_eq : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = arr2 (fun o d => Quant.code (x3 (ix2 o (grp d))) (x4 (ix2 o (grp d))) (mx x2 o (grp d)) (mn x2 o (grp d)) (x2 (ix2 o d))) := by
  rw [out0_A_9_pay]
  funext j
  rw [eq_ix2 (n0 := 6912) (n1 := 2560) j]
  exact codes_eq x2 x3 x4 (j 0) (j 1)

/-- The steps, entry by entry. -/
theorem out0_A_10_eq : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = arr2 (fun o g => Quant.h (x3 (ix2 o g)) (x4 (ix2 o g)) (mx x2 o g) (mn x2 o g)) := by
  rw [out0_A_10_pay]
  funext j
  rw [eq_ix2 (n0 := 6912) (n1 := 20) j]
  exact pay9_apply x2 x3 x4 (j 0) (j 1)

/-- The zero points, entry by entry. -/
theorem out0_A_11_eq : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = arr2 (fun o g => Quant.z (x3 (ix2 o g)) (x4 (ix2 o g)) (mx x2 o g) (mn x2 o g)) := by
  rw [out0_A_11_pay]
  funext j
  rw [eq_ix2 (n0 := 6912) (n1 := 20) j]
  exact pay10_apply x2 x3 x4 (j 0) (j 1)

/-- The loss, entry by entry. -/
theorem out0_A_8_eq : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = fun _ => lossR x0 x1 x2 x3 x4 x5 := by
  rw [out0_A_8_pay]
  funext j
  exact loss_eq x0 x1 x2 x3 x4 x5

end Cert.Ref

end
-- ==== Proof.RefArrays.lean ====
/- What the reference's six result arrays hold at the end of its run.  Its one step works on whole arrays, so every
   block is the array itself. -/
module

public import proofs.«01_k».proof.Proof.RefOuts
public import proofs.«01_k».proof.Proof.Gen.ReferenceIdeal.Frame
public import Idealize.ShloMosaic.Lib.Pipeline.Value

@[expose] public section

set_option maxRecDepth 16384

noncomputable section

namespace Cert.Ref

open Cert.ReferenceIdeal Cert.ReferenceIdeal.Gen Idealize.ShloMosaic Idealize.ShloMosaic.TcCoe Idealize.SL.Sem
open Cert.Tile (col grp arr2)

/-- The only step. -/
def only : Fin cfg0.N := ⟨0, (by decide +kernel : 0 < grid0.N)⟩

variable (m : (ℓ : Loc nD τ sig) → Buf (Elt Ideal) ℓ) (c : Dev nD)

theorem index_0 : ∀ t : Fin grid0.N, win0_0.index t 0 = 0 ∧ win0_0.index t 1 = 0 ∧ win0_0.index t 2 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 ∧ win0_5.index t 2 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel
theorem index_11 : ∀ t : Fin grid0.N, win0_11.index t 0 = 0 ∧ win0_11.index t 1 = 0 := by decide +kernel

/-- The block of argument 0 is the argument. -/
theorem iblk_0 (t : Fin cfg0.N) : (iblk m c 0 t : Vec Ideal S6x256x2560 .fp8e4m3) = m ((c : Thread nD τ).loc main_arg0) := by
  funext j
  obtain ⟨h0, h1, h2⟩ := index_0 t
  unfold iblk
  rw [View.read_apply]
  refine congrArg (m ((c : Thread nD τ).loc main_arg0)) ?_
  funext a
  apply Fin.ext
  match a with
  | ⟨0, _⟩ => show win0_0.index t 0 * 6 + 1 * (j 0).val = (j 0).val; rw [h0]; omega
  | ⟨1, _⟩ => show win0_0.index t 1 * 256 + 1 * (j 1).val = (j 1).val; rw [h1]; omega
  | ⟨2, _⟩ => show win0_0.index t 2 * 2560 + 1 * (j 2).val = (j 2).val; rw [h2]; omega

/-- The block of argument 1 is the argument. -/
theorem iblk_1 (t : Fin cfg0.N) : (iblk m c 1 t : Vec Ideal S6x256 .f32) = m ((c : Thread nD τ).loc main_arg1) := by
  funext j
  obtain ⟨h0, h1⟩ := index_1 t
  unfold iblk
  rw [View.read_apply]
  refine congrArg (m ((c : Thread nD τ).loc main_arg1)) ?_
  funext a
  apply Fin.ext
  match a with
  | ⟨0, _⟩ => show win0_1.index t 0 * 6 + 1 * (j 0).val = (j 0).val; rw [h0]; omega
  | ⟨1, _⟩ => show win0_1.index t 1 * 256 + 1 * (j 1).val = (j 1).val; rw [h1]; omega

/-- The block of argument 2 is the argument. -/
theorem iblk_2 (t : Fin cfg0.N) : (iblk m c 2 t : Vec Ideal S6912x2560 .f32) = m ((c : Thread nD τ).loc main_arg2) := by
  funext j
  obtain ⟨h0, h1⟩ := index_2 t
  unfold iblk
  rw [View.read_apply]
  refine congrArg (m ((c : Thread nD τ).loc main_arg2)) ?_
  funext a
  apply Fin.ext
  match a with
  | ⟨0, _⟩ => show win0_2.index t 0 * 6912 + 1 * (j 0).val = (j 0).val; rw [h0]; omega
  | ⟨1, _⟩ => show win0_2.index t 1 * 2560 + 1 * (j 1).val = (j 1).val; rw [h1]; omega

/-- The block of argument 3 is the argument. -/
theorem iblk_3 (t : Fin cfg0.N) : (iblk m c 3 t : Vec Ideal S6912x20 .f32) = m ((c : Thread nD τ).loc main_arg3) := by
  funext j
  obtain ⟨h0, h1⟩ := index_3 t
  unfold iblk
  rw [View.read_apply]
  refine congrArg (m ((c : Thread nD τ).loc main_arg3)) ?_
  funext a
  apply Fin.ext
  match a with
  | ⟨0, _⟩ => show win0_3.index t 0 * 6912 + 1 * (j 0).val = (j 0).val; rw [h0]; omega
  | ⟨1, _⟩ => show win0_3.index t 1 * 20 + 1 * (j 1).val = (j 1).val; rw [h1]; omega

/-- The block of argument 4 is the argument. -/
theorem iblk_4 (t : Fin cfg0.N) : (iblk m c 4 t : Vec Ideal S6912x20 .f32) = m ((c : Thread nD τ).loc main_arg4) := by
  funext j
  obtain ⟨h0, h1⟩ := index_4 t
  unfold iblk
  rw [View.read_apply]
  refine congrArg (m ((c : Thread nD τ).loc main_arg4)) ?_
  funext a
  apply Fin.ext
  match a with
  | ⟨0, _⟩ => show win0_4.index t 0 * 6912 + 1 * (j 0).val = (j 0).val; rw [h0]; omega
  | ⟨1, _⟩ => show win0_4.index t 1 * 20 + 1 * (j 1).val = (j 1).val; rw [h1]; omega

/-- The block of argument 5 is the argument. -/
theorem iblk_5 (t : Fin cfg0.N) : (iblk m c 5 t : Vec Ideal S6x256x6912 .bf16) = m ((c : Thread nD τ).loc main_arg5) := by
  funext j
  obtain ⟨h0, h1, h2⟩ := index_5 t
  unfold iblk
  rw [View.read_apply]
  refine congrArg (m ((c : Thread nD τ).loc main_arg5)) ?_
  funext a
  apply Fin.ext
  match a with
  | ⟨0, _⟩ => show win0_5.index t 0 * 6 + 1 * (j 0).val = (j 0).val; rw [h0]; omega
  | ⟨1, _⟩ => show win0_5.index t 1 * 256 + 1 * (j 1).val = (j 1).val; rw [h1]; omega
  | ⟨2, _⟩ => show win0_5.index t 2 * 6912 + 1 * (j 2).val = (j 2).val; rw [h2]; omega

/-- The gradients in the upper parameter. -/
def ref_6 : Vec Ideal S6912x20 .f32 := arr2 (dgR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

theorem outs_6 (t : Fin cfg0.N) : (outsAt0 m c t).1 = ref_6 m c := by
  unfold outsAt0
  dsimp only
  rw [out0_A_6_eq, iblk_0, iblk_1, iblk_2, iblk_3, iblk_4, iblk_5]
  rfl

theorem flushed_eq_6 (t : Fin cfg0.N) (_hf : (cfg0.win 6).flush t = true) :
    (dats m 0 c).flushed 6 t = ((cfg0.win 6).blk t).view.read (Elt Ideal) (ref_6 m c) := by
  show (cfg0.win 6).cut (grid0.coords t) ((dats m 0 c).after 6 t) = _
  rw [after0_6, outs_6]
  funext j
  obtain ⟨h0, h1⟩ := index_6 t
  rw [View.read_apply]
  refine congrArg (ref_6 m c) ?_
  funext a
  apply Fin.ext
  match a with
  | ⟨0, _⟩ => show (j 0).val = win0_6.index t 0 * 6912 + 1 * (j 0).val; rw [h0]; omega
  | ⟨1, _⟩ => show (j 1).val = win0_6.index t 1 * 20 + 1 * (j 1).val; rw [h1]; omega

theorem final_6 : (dats m 0 c).arrAt 6 cfg0.N = ref_6 m c :=
  (dats m 0 c).arrAt_eq_of_cover 6 (ref_6 m c) (flushed_eq_6 m c) fun i =>
    ⟨only, flush0_6 _, by
      show i ∈ ((View.whole main_v0_0).slice (win0_6.rect only)).set
      rw [View.set_slice_whole, Rect.mem_set_unit]
      intro a
      obtain ⟨h0, h1⟩ := index_6 only
      have l0 : (i 0 : Nat) < 6912 := (i 0).isLt
      have l1 : (i 1 : Nat) < 20 := (i 1).isLt
      match a with
      | ⟨0, _⟩ =>
        show win0_6.index only 0 * 6912 ≤ (i 0 : Nat) ∧ (i 0 : Nat) < win0_6.index only 0 * 6912 + 6912
        rw [h0]; omega
      | ⟨1, _⟩ =>
        show win0_6.index only 1 * 20 ≤ (i 1 : Nat) ∧ (i 1 : Nat) < win0_6.index only 1 * 20 + 20
        rw [h1]; omega⟩

/-- The gradients in the lower parameter. -/
def ref_7 : Vec Ideal S6912x20 .f32 := arr2 (dbR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

theorem outs_7 (t : Fin cfg0.N) : (outsAt0 m c t).2.1 = ref_7 m c := by
  unfold outsAt0
  dsimp only
  rw [out0_A_7_eq, iblk_0, iblk_1, iblk_2, iblk_3, iblk_4, iblk_5]
  rfl

theorem flushed_eq_7 (t : Fin cfg0.N) (_hf : (cfg0.win 7).flush t = true) :
    (dats m 0 c).flushed 7 t = ((cfg0.win 7).blk t).view.read (Elt Ideal) (ref_7 m c) := by
  show (cfg0.win 7).cut (grid0.coords t) ((dats m 0 c).after 7 t) = _
  rw [after0_7, outs_7]
  funext j
  obtain ⟨h0, h1⟩ := index_7 t
  rw [View.read_apply]
  refine congrArg (ref_7 m c) ?_
  funext a
  apply Fin.ext
  match a with
  | ⟨0, _⟩ => show (j 0).val = win0_7.index t 0 * 6912 + 1 * (j 0).val; rw [h0]; omega
  | ⟨1, _⟩ => show (j 1).val = win0_7.index t 1 * 20 + 1 * (j 1).val; rw [h1]; omega

theorem final_7 : (dats m 0 c).arrAt 7 cfg0.N = ref_7 m c :=
  (dats m 0 c).arrAt_eq_of_cover 7 (ref_7 m c) (flushed_eq_7 m c) fun i =>
    ⟨only, flush0_7 _, by
      show i ∈ ((View.whole main_v0_1).slice (win0_7.rect only)).set
      rw [View.set_slice_whole, Rect.mem_set_unit]
      intro a
      obtain ⟨h0, h1⟩ := index_7 only
      have l0 : (i 0 : Nat) < 6912 := (i 0).isLt
      have l1 : (i 1 : Nat) < 20 := (i 1).isLt
      match a with
      | ⟨0, _⟩ =>
        show win0_7.index only 0 * 6912 ≤ (i 0 : Nat) ∧ (i 0 : Nat) < win0_7.index only 0 * 6912 + 6912
        rw [h0]; omega
      | ⟨1, _⟩ =>
        show win0_7.index only 1 * 20 ≤ (i 1 : Nat) ∧ (i 1 : Nat) < win0_7.index only 1 * 20 + 20
        rw [h1]; omega⟩

/-- The loss. -/
def ref_8 : Vec Ideal S1x1 .f32 := fun _ => lossR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem outs_8 (t : Fin cfg0.N) : (outsAt0 m c t).2.2.1 = ref_8 m c := by
  unfold outsAt0
  dsimp only
  rw [out0_A_8_eq, iblk_0, iblk_1, iblk_2, iblk_3, iblk_4, iblk_5]
  rfl

theorem flushed_eq_8 (t : Fin cfg0.N) (_hf : (cfg0.win 8).flush t = true) :
    (dats m 0 c).flushed 8 t = ((cfg0.win 8).blk t).view.read (Elt Ideal) (ref_8 m c) := by
  show (cfg0.win 8).cut (grid0.coords t) ((dats m 0 c).after 8 t) = _
  rw [after0_8, outs_8]
  funext j
  rw [View.read_apply]
  rfl

theorem final_8 : (dats m 0 c).arrAt 8 cfg0.N = ref_8 m c :=
  (dats m 0 c).arrAt_eq_of_cover 8 (ref_8 m c) (flushed_eq_8 m c) fun i =>
    ⟨only, flush0_8 _, by
      show i ∈ ((View.whole main_v0_2).slice (win0_8.rect only)).set
      rw [View.set_slice_whole, Rect.mem_set_unit]
      intro a
      obtain ⟨h0, h1⟩ := index_8 only
      have l0 : (i 0 : Nat) < 1 := (i 0).isLt
      have l1 : (i 1 : Nat) < 1 := (i 1).isLt
      match a with
      | ⟨0, _⟩ =>
        show win0_8.index only 0 * 1 ≤ (i 0 : Nat) ∧ (i 0 : Nat) < win0_8.index only 0 * 1 + 1
        rw [h0]; omega
      | ⟨1, _⟩ =>
        show win0_8.index only 1 * 1 ≤ (i 1 : Nat) ∧ (i 1 : Nat) < win0_8.index only 1 * 1 + 1
        rw [h1]; omega⟩

/-- The codes. -/
def ref_9 : Vec Ideal S6912x2560 .i8 := arr2 (fun o d => Quant.code ((m ((c : Thread nD τ).loc main_arg3)) (ix2 o (grp d))) ((m ((c : Thread nD τ).loc main_arg4)) (ix2 o (grp d))) (mx (m ((c : Thread nD τ).loc main_arg2)) o (grp d)) (mn (m ((c : Thread nD τ).loc main_arg2)) o (grp d)) ((m ((c : Thread nD τ).loc main_arg2)) (ix2 o d)))

theorem outs_9 (t : Fin cfg0.N) : (outsAt0 m c t).2.2.2.1 = ref_9 m c := by
  unfold outsAt0
  dsimp only
  rw [out0_A_9_eq, iblk_2, iblk_3, iblk_4]
  rfl

theorem flushed_eq_9 (t : Fin cfg0.N) (_hf : (cfg0.win 9).flush t = true) :
    (dats m 0 c).flushed 9 t = ((cfg0.win 9).blk t).view.read (Elt Ideal) (ref_9 m c) := by
  show (cfg0.win 9).cut (grid0.coords t) ((dats m 0 c).after 9 t) = _
  rw [after0_9, outs_9]
  funext j
  obtain ⟨h0, h1⟩ := index_9 t
  rw [View.read_apply]
  refine congrArg (ref_9 m c) ?_
  funext a
  apply Fin.ext
  match a with
  | ⟨0, _⟩ => show (j 0).val = win0_9.index t 0 * 6912 + 1 * (j 0).val; rw [h0]; omega
  | ⟨1, _⟩ => show (j 1).val = win0_9.index t 1 * 2560 + 1 * (j 1).val; rw [h1]; omega

theorem final_9 : (dats m 0 c).arrAt 9 cfg0.N = ref_9 m c :=
  (dats m 0 c).arrAt_eq_of_cover 9 (ref_9 m c) (flushed_eq_9 m c) fun i =>
    ⟨only, flush0_9 _, by
      show i ∈ ((View.whole main_v0_3).slice (win0_9.rect only)).set
      rw [View.set_slice_whole, Rect.mem_set_unit]
      intro a
      obtain ⟨h0, h1⟩ := index_9 only
      have l0 : (i 0 : Nat) < 6912 := (i 0).isLt
      have l1 : (i 1 : Nat) < 2560 := (i 1).isLt
      match a with
      | ⟨0, _⟩ =>
        show win0_9.index only 0 * 6912 ≤ (i 0 : Nat) ∧ (i 0 : Nat) < win0_9.index only 0 * 6912 + 6912
        rw [h0]; omega
      | ⟨1, _⟩ =>
        show win0_9.index only 1 * 2560 ≤ (i 1 : Nat) ∧ (i 1 : Nat) < win0_9.index only 1 * 2560 + 2560
        rw [h1]; omega⟩

/-- The steps. -/
def ref_10 : Vec Ideal S6912x20 .f32 := arr2 (fun o g => Quant.h ((m ((c : Thread nD τ).loc main_arg3)) (ix2 o g)) ((m ((c : Thread nD τ).loc main_arg4)) (ix2 o g)) (mx (m ((c : Thread nD τ).loc main_arg2)) o g) (mn (m ((c : Thread nD τ).loc main_arg2)) o g))

theorem outs_10 (t : Fin cfg0.N) : (outsAt0 m c t).2.2.2.2.1 = ref_10 m c := by
  unfold outsAt0
  dsimp only
  rw [out0_A_10_eq, iblk_2, iblk_3, iblk_4]
  rfl

theorem flushed_eq_10 (t : Fin cfg0.N) (_hf : (cfg0.win 10).flush t = true) :
    (dats m 0 c).flushed 10 t = ((cfg0.win 10).blk t).view.read (Elt Ideal) (ref_10 m c) := by
  show (cfg0.win 10).cut (grid0.coords t) ((dats m 0 c).after 10 t) = _
  rw [after0_10, outs_10]
  funext j
  obtain ⟨h0, h1⟩ := index_10 t
  rw [View.read_apply]
  refine congrArg (ref_10 m c) ?_
  funext a
  apply Fin.ext
  match a with
  | ⟨0, _⟩ => show (j 0).val = win0_10.index t 0 * 6912 + 1 * (j 0).val; rw [h0]; omega
  | ⟨1, _⟩ => show (j 1).val = win0_10.index t 1 * 20 + 1 * (j 1).val; rw [h1]; omega

theorem final_10 : (dats m 0 c).arrAt 10 cfg0.N = ref_10 m c :=
  (dats m 0 c).arrAt_eq_of_cover 10 (ref_10 m c) (flushed_eq_10 m c) fun i =>
    ⟨only, flush0_10 _, by
      show i ∈ ((View.whole main_v0_4).slice (win0_10.rect only)).set
      rw [View.set_slice_whole, Rect.mem_set_unit]
      intro a
      obtain ⟨h0, h1⟩ := index_10 only
      have l0 : (i 0 : Nat) < 6912 := (i 0).isLt
      have l1 : (i 1 : Nat) < 20 := (i 1).isLt
      match a with
      | ⟨0, _⟩ =>
        show win0_10.index only 0 * 6912 ≤ (i 0 : Nat) ∧ (i 0 : Nat) < win0_10.index only 0 * 6912 + 6912
        rw [h0]; omega
      | ⟨1, _⟩ =>
        show win0_10.index only 1 * 20 ≤ (i 1 : Nat) ∧ (i 1 : Nat) < win0_10.index only 1 * 20 + 20
        rw [h1]; omega⟩

/-- The zero points. -/
def ref_11 : Vec Ideal S6912x20 .f32 := arr2 (fun o g => Quant.z ((m ((c : Thread nD τ).loc main_arg3)) (ix2 o g)) ((m ((c : Thread nD τ).loc main_arg4)) (ix2 o g)) (mx (m ((c : Thread nD τ).loc main_arg2)) o g) (mn (m ((c : Thread nD τ).loc main_arg2)) o g))

theorem outs_11 (t : Fin cfg0.N) : (outsAt0 m c t).2.2.2.2.2 = ref_11 m c := by
  unfold outsAt0
  dsimp only
  rw [out0_A_11_eq, iblk_2, iblk_3, iblk_4]
  rfl

theorem flushed_eq_11 (t : Fin cfg0.N) (_hf : (cfg0.win 11).flush t = true) :
    (dats m 0 c).flushed 11 t = ((cfg0.win 11).blk t).view.read (Elt Ideal) (ref_11 m c) := by
  show (cfg0.win 11).cut (grid0.coords t) ((dats m 0 c).after 11 t) = _
  rw [after0_11, outs_11]
  funext j
  obtain ⟨h0, h1⟩ := index_11 t
  rw [View.read_apply]
  refine congrArg (ref_11 m c) ?_
  funext a
  apply Fin.ext
  match a with
  | ⟨0, _⟩ => show (j 0).val = win0_11.index t 0 * 6912 + 1 * (j 0).val; rw [h0]; omega
  | ⟨1, _⟩ => show (j 1).val = win0_11.index t 1 * 20 + 1 * (j 1).val; rw [h1]; omega

theorem final_11 : (dats m 0 c).arrAt 11 cfg0.N = ref_11 m c :=
  (dats m 0 c).arrAt_eq_of_cover 11 (ref_11 m c) (flushed_eq_11 m c) fun i =>
    ⟨only, flush0_11 _, by
      show i ∈ ((View.whole main_v0_5).slice (win0_11.rect only)).set
      rw [View.set_slice_whole, Rect.mem_set_unit]
      intro a
      obtain ⟨h0, h1⟩ := index_11 only
      have l0 : (i 0 : Nat) < 6912 := (i 0).isLt
      have l1 : (i 1 : Nat) < 20 := (i 1).isLt
      match a with
      | ⟨0, _⟩ =>
        show win0_11.index only 0 * 6912 ≤ (i 0 : Nat) ∧ (i 0 : Nat) < win0_11.index only 0 * 6912 + 6912
        rw [h0]; omega
      | ⟨1, _⟩ =>
        show win0_11.index only 1 * 20 ≤ (i 1 : Nat) ∧ (i 1 : Nat) < win0_11.index only 1 * 20 + 20
        rw [h1]; omega⟩

end Cert.Ref

end
-- ==== Proof.RefRun.lean ====
/- The reference's run: its results, the loss being the one entry of the loss array, and its arguments unchanged. -/
module

public import proofs.«01_k».proof.Proof.RefArrays

@[expose] public section

set_option maxRecDepth 16384

noncomputable section

namespace Cert.Ref

open Cert.ReferenceIdeal Cert.ReferenceIdeal.Gen Idealize.ShloMosaic Idealize.ShloMosaic.TcCoe Idealize.SL.Sem

variable (m : (ℓ : Loc nD τ sig) → Buf (Elt Ideal) ℓ) (c : Dev nD) (ρ : Dev nD → PrngReg)

/-- Each window has its own array. -/
theorem arrays_inj : Function.Injective (Pipeline.arrRef spec0) := by decide

/-- A result array after the call. -/
theorem array (w : Fin 12) :
    Pipeline.withArrays (cfgs 0).spec c (V0 m c) (fun w => (dats m 0 c).arrAt w cfg0.N) (Proc.devRef .tc (Pipeline.arrRef spec0 w))
      = (dats m 0 c).arrAt w cfg0.N :=
  Pipeline.withArrays_arr spec0 arrays_inj c _ _ w

/-- The loss, after the lines that follow the call. -/
theorem tail_1 : Pipeline.afterTail₀ cfgs (dats m) 0 (V0 m) [hostOps1] c main_v1
    = shapeCast S_ (ref_8 m c) shapeCasts_S1x1_S_ := by
  unfold Pipeline.afterTail₀
  after_results
  exact congrArg (fun x => shapeCast S_ x shapeCasts_S1x1_S_) ((array m c 8).trans (final_8 m c))

/-- The reference's run. -/
theorem run : θ_run defs (onTc (τ := τ) (main (F := Ideal))) ⟨m, fun _ => 0, ρ⟩ (fun r => ∀ c : Dev nD,
      r.2.mem ((c.tc : Thread nD τ).loc main_v0_0) = ref_6 m c
      ∧ r.2.mem ((c.tc : Thread nD τ).loc main_v0_1) = ref_7 m c
      ∧ r.2.mem ((c.tc : Thread nD τ).loc main_v1) = shapeCast S_ (ref_8 m c) shapeCasts_S1x1_S_
      ∧ r.2.mem ((c.tc : Thread nD τ).loc main_v0_3) = ref_9 m c
      ∧ r.2.mem ((c.tc : Thread nD τ).loc main_v0_4) = ref_10 m c
      ∧ r.2.mem ((c.tc : Thread nD τ).loc main_v0_5) = ref_11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final_6 m c), ((h.1 c).1 7).trans (final_7 m c),
      ((h.1 c).2 main_v1 (Pipeline.mem_restRefs_of main_v1 (by decide) (by decide))).trans (tail_1 m c),
      ((h.1 c).1 9).trans (final_9 m c), ((h.1 c).1 10).trans (final_10 m c), ((h.1 c).1 11).trans (final_11 m c), h.2 c⟩)
    (θ_run_and (run_main m ρ) (unchanged m ρ))

end Cert.Ref

end
-- ==== Proof.Equation.lean ====
/- The kernel's tiles and the reference's arrays hold the same numbers. -/
module

public import proofs.«01_k».proof.Proof.Arrays
public import proofs.«01_k».proof.Proof.Ref

@[expose] public section

set_option maxRecDepth 16384

noncomputable section

namespace Cert.Equation

open Cert.KernelIdeal Idealize.ShloMosaic Cert.Tile Cert.Sweep
open Cert.Ref (mx mn wh dwh err lossR sR dgR dbR)

/-- A sum over the tokens, by example and place. -/
theorem sum_tokens (f : Fin 6 → Fin 256 → EReal) : ∑ t : Fin 1536, f (bat t) (pos t) = ∑ b : Fin 6, ∑ p : Fin 256, f b p :=
  Fin.sum_univ_mul_divNat_modNat 6 256 f

/-- A sum over the outputs, by tile and place. -/
theorem sum_outs (f : Fin 6912 → EReal) : ∑ p : Fin 27, ∑ o : Fin 256, f (out p o) = ∑ o : Fin 6912, f o := by
  refine Eq.trans ?_ (Fin.sum_mul_add_fin 27 256 f)
  refine Finset.sum_congr rfl fun p _ => Finset.sum_congr rfl fun o _ => congrArg f (Fin.ext ?_)
  show 256 * p.val + o.val = p.val * 256 + o.val
  omega

/-- A sum over the tokens, by chunk and place in the chunk's eight rows. -/
theorem sum_chunks (f : Fin 1536 → EReal) :
    ∑ c : Fin 3, ∑ r : Fin 8, ∑ b : Fin 64, f (tok c ⟨b.val * 8 + r.val, by omega⟩) = ∑ t : Fin 1536, f t := by
  refine Eq.trans ?_ (Fin.sum_mul_add_fin 3 512 f)
  refine Finset.sum_congr rfl fun c _ => ?_
  rw [Finset.sum_comm]
  refine Eq.trans ?_ (Fin.sum_mul_add_fin 64 8 fun i : Fin 512 => f ⟨c.val * 512 + i.val, by omega⟩)
  refine Finset.sum_congr rfl fun b _ => Finset.sum_congr rfl fun r _ => congrArg f (Fin.ext ?_)
  show 512 * c.val + (b.val * 8 + r.val) = c.val * 512 + (b.val * 8 + r.val)
  omega

variable (a0 : Vec Ideal S6x256x2560 .fp8e4m3) (a1 : Vec Ideal S6x256 .f32) (a2 : Vec Ideal S6912x2560 .f32)
  (a3 a4 : Vec Ideal S6912x20 .f32) (a5 : Vec Ideal S6x256x6912 .bf16)

/-- The error of an output for a token. -/
theorem err_tile (p : Fin 27) (t : Fin 1536) (o : Fin 256) :
    errT (xbP a0) (srP a1) (whatP a2 a3 a4 p) (yOf a5 p) t o = err a0 a1 a2 a3 a4 a5 (bat t) (pos t) (out p o) := rfl

/-- The same times the token's scale. -/
theorem e_tile (p : Fin 27) (t : Fin 1536) (o : Fin 256) :
    eP a0 a1 a2 a3 a4 a5 p (ix2 t o) = err a0 a1 a2 a3 a4 a5 (bat t) (pos t) (out p o) * a1 (ix2 (bat t) (pos t)) := rfl

/-- The gradient in a group's step. -/
theorem s_tile (p : Fin 27) (g : Fin 20) (o : Fin 256) :
    sT (xtP a0) (eP a0 a1 a2 a3 a4 a5 p) (dwP a2 a3 a4 p) g o = sR a0 a1 a2 a3 a4 a5 (out p o) g := by
  unfold sT sR
  refine congrArg (· * Quant.scale) (Finset.sum_congr rfl fun k _ => ?_)
  refine congrArg₂ (· * ·) ?_ rfl
  rw [← sum_tokens fun b q => (err a0 a1 a2 a3 a4 a5 b q (out p o) * a1 (ix2 b q)) * a0 (ix3 b q (col g k))]
  exact Finset.sum_congr rfl fun t _ => mul_comm (_ : EReal) _

/-- The gradient in the upper parameter. -/
theorem dg_tile (p : Fin 27) (g : Fin 20) (o : Fin 256) :
    dgT (xtP a0) (eP a0 a1 a2 a3 a4 a5 p) (dwP a2 a3 a4 p) (gOf a3 p) (maxP a2 p) g o = dgR a0 a1 a2 a3 a4 a5 (out p o) g := by
  unfold dgT dgR
  rw [s_tile]
  rfl

/-- The gradient in the lower parameter. -/
theorem db_tile (p : Fin 27) (g : Fin 20) (o : Fin 256) :
    dbT (xtP a0) (eP a0 a1 a2 a3 a4 a5 p) (dwP a2 a3 a4 p) (gOf a4 p) (minP a2 p) g o = dbR a0 a1 a2 a3 a4 a5 (out p o) g := by
  unfold dbT dbR
  rw [s_tile]
  rfl

/-- The square of an error. -/
def sq (b : Fin 6) (q : Fin 256) (o : Fin 6912) : EReal := err a0 a1 a2 a3 a4 a5 b q o * err a0 a1 a2 a3 a4 a5 b q o

/-- The squares of a tile. -/
def tileSq (p : Fin 27) : EReal := ∑ b : Fin 6, ∑ q : Fin 256, ∑ o : Fin 256, sq a0 a1 a2 a3 a4 a5 b q (out p o)

/-- The squares of the chunks of a tile, over the accumulator's places, are the squares of the tile. -/
theorem sum_sq (p : Fin 27) :
    ∑ c : Fin 3, ∑ r : Fin 8, ∑ o : Fin 256, sqT (xbP a0) (srP a1) (whatP a2 a3 a4 p) (yOf a5 p) c r o = tileSq a0 a1 a2 a3 a4 a5 p := by
  unfold tileSq
  rw [← sum_tokens fun b q => ∑ o : Fin 256, sq a0 a1 a2 a3 a4 a5 b q (out p o),
    ← sum_chunks fun t => ∑ o : Fin 256, sq a0 a1 a2 a3 a4 a5 (bat t) (pos t) (out p o)]
  exact Finset.sum_congr rfl fun c _ => Finset.sum_congr rfl fun r _ => Finset.sum_comm

/-- A tile adds its squares to the accumulator's total. -/
theorem acc_step (n : ℕ) :
    ∑ r : Fin 8, ∑ o : Fin 256, accP a0 a1 a2 a3 a4 a5 (n + 1) (ix2 r o)
      = (∑ r : Fin 8, ∑ o : Fin 256, accP a0 a1 a2 a3 a4 a5 n (ix2 r o)) + tileSq a0 a1 a2 a3 a4 a5 (til n) := by
  rw [← sum_sq, Fin.sum_univ_three]
  have h (r : Fin 8) (o : Fin 256) : accP a0 a1 a2 a3 a4 a5 (n + 1) (ix2 r o)
      = ((accP a0 a1 a2 a3 a4 a5 n (ix2 r o) + sqT (xbP a0) (srP a1) (whatP a2 a3 a4 (til n)) (yOf a5 (til n)) 0 r o)
        + sqT (xbP a0) (srP a1) (whatP a2 a3 a4 (til n)) (yOf a5 (til n)) 1 r o)
        + sqT (xbP a0) (srP a1) (whatP a2 a3 a4 (til n)) (yOf a5 (til n)) 2 r o := rfl
  generalize sqT (xbP a0) (srP a1) (whatP a2 a3 a4 (til n)) (yOf a5 (til n)) = q at h ⊢
  simp only [h, Finset.sum_add_distrib, add_assoc]

/-- The accumulator's total after some tiles. -/
theorem acc_total (n : ℕ) :
    ∑ r : Fin 8, ∑ o : Fin 256, accP a0 a1 a2 a3 a4 a5 n (ix2 r o) = ∑ k : Fin n, tileSq a0 a1 a2 a3 a4 a5 (til k.val) := by
  induction n with
  | zero =>
    have h (r : Fin 8) (o : Fin 256) : accP a0 a1 a2 a3 a4 a5 0 (ix2 r o) = (0 : EReal) := rfl
    simp only [h, Finset.sum_const_zero, Finset.univ_eq_empty, Finset.sum_empty]
  | succ n ih => rw [acc_step, ih, Fin.sum_univ_castSucc]; rfl

/-- The loss. -/
theorem loss_tile (i j : Fin 1) : lossT (accP a0 a1 a2 a3 a4 a5 27) i j = lossR a0 a1 a2 a3 a4 a5 := by
  unfold lossT lossR
  rw [acc_total]
  refine congrArg (fun z : EReal => Ideal.div z Quant.count) ?_
  have ht (k : Fin 27) : til k.val = k := Fin.ext (by show min k.val 26 = k.val; omega)
  simp only [ht, tileSq]
  rw [Finset.sum_comm]
  refine Finset.sum_congr rfl fun b _ => ?_
  rw [Finset.sum_comm]
  exact Finset.sum_congr rfl fun q _ => sum_outs fun o => sq a0 a1 a2 a3 a4 a5 b q o

end Cert.Equation

end
-- ==== Proof.Results.lean ====
/- The kernel's six results are the reference's six results on the same arguments.  The kernel transposes four of its
   result arrays after its call; the reference's arrays are in that layout already. -/
module

public import proofs.«01_k».proof.Proof.Equation
public import proofs.«01_k».proof.Proof.RefArrays

@[expose] public section

set_option maxRecDepth 16384

noncomputable section

namespace Cert.Equation

open Cert.KernelIdeal Cert.KernelIdeal.Gen Idealize.ShloMosaic Idealize.ShloMosaic.TcCoe Idealize.SL.Sem Cert.Tile Cert.Sweep
open Cert.Ref (mx mn lossR dgR dbR)

/-- A transposed array, from its entries. -/
theorem transpose_arr2 (f : Fin 20 → Fin 6912 → EReal) :
    (transpose S6912x20 [1, 0] (arr2 f) transposes_S20x6912_S6912x20_1_0 : Vec Ideal S6912x20 .f32) = arr2 (fun o g => f g o) := by
  funext j
  rfl

/-- An array put together from tiles of columns, from its entries. -/
theorem join_cols {α : Type} (T : Fin 27 → S20x256.Idx → α) (f : Fin 20 → Fin 6912 → α)
    (h : ∀ (p : Fin 27) (g : Fin 20) (o : Fin 256), T p (ix2 g o) = f g (out p o)) (g : Fin 20) (o : Fin 6912) :
    T (tl o) (ix2 g (pl o)) = f g o := by
  rw [h, out_tl]

/-- An array put together from tiles of rows, from its entries. -/
theorem join_rows {α : Type} (T : Fin 27 → S256x2560.Idx → α) (f : Fin 6912 → Fin 2560 → α)
    (h : ∀ (p : Fin 27) (o : Fin 256) (d : Fin 2560), T p (ix2 o d) = f (out p o) d) (o : Fin 6912) (d : Fin 2560) :
    T (tl o) (ix2 (pl o) d) = f o d := by
  rw [h, out_tl]

variable (m : (ℓ : Loc nD τ sig) → Buf (Elt Ideal) ℓ) (c : Dev nD)

/-- The gradients in the upper parameter. -/
theorem value_8 : res_8 m c = arr2 (fun g o => dgR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) o g) :=
  congrArg arr2 (funext fun g => funext fun o => join_cols (tile_8 m c) (fun g o => dgR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) o g) (fun p g o => dg_tile _ _ _ _ _ _ p g o) g o)

/-- The gradients in the lower parameter. -/
theorem value_9 : res_9 m c = arr2 (fun g o => dbR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) o g) :=
  congrArg arr2 (funext fun g => funext fun o => join_cols (tile_9 m c) (fun g o => dbR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) o g) (fun p g o => db_tile _ _ _ _ _ _ p g o) g o)

/-- The loss. -/
theorem value_10 : res_10 m c = (fun _ => lossR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  funext fun j => loss_tile _ _ _ _ _ _ (j 0) (j 1)

/-- The codes. -/
theorem value_11 : res_11 m c = arr2 (fun o d => Quant.code ((m ((c : Thread nD τ).loc main_arg3)) (ix2 o (grp d))) ((m ((c : Thread nD τ).loc main_arg4)) (ix2 o (grp d))) (mx (m ((c : Thread nD τ).loc main_arg2)) o (grp d)) (mn (m ((c : Thread nD τ).loc main_arg2)) o (grp d)) ((m ((c : Thread nD τ).loc main_arg2)) (ix2 o d))) :=
  congrArg arr2 (funext fun o => funext fun d => join_rows (tile_11 m c) (fun o d => Quant.code ((m ((c : Thread nD τ).loc main_arg3)) (ix2 o (grp d))) ((m ((c : Thread nD τ).loc main_arg4)) (ix2 o (grp d))) (mx (m ((c : Thread nD τ).loc main_arg2)) o (grp d)) (mn (m ((c : Thread nD τ).loc main_arg2)) o (grp d)) ((m ((c : Thread nD τ).loc main_arg2)) (ix2 o d))) (fun _ _ _ => rfl) o d)

/-- The steps. -/
theorem value_12 : res_12 m c = arr2 (fun g o => Quant.h ((m ((c : Thread nD τ).loc main_arg3)) (ix2 o g)) ((m ((c : Thread nD τ).loc main_arg4)) (ix2 o g)) (mx (m ((c : Thread nD τ).loc main_arg2)) o g) (mn (m ((c : Thread nD τ).loc main_arg2)) o g)) :=
  congrArg arr2 (funext fun g => funext fun o => join_cols (tile_12 m c) (fun g o => Quant.h ((m ((c : Thread nD τ).loc main_arg3)) (ix2 o g)) ((m ((c : Thread nD τ).loc main_arg4)) (ix2 o g)) (mx (m ((c : Thread nD τ).loc main_arg2)) o g) (mn (m ((c : Thread nD τ).loc main_arg2)) o g)) (fun _ _ _ => rfl) g o)

/-- The zero points. -/
theorem value_13 : res_13 m c = arr2 (fun g o => Quant.z ((m ((c : Thread nD τ).loc main_arg3)) (ix2 o g)) ((m ((c : Thread nD τ).loc main_arg4)) (ix2 o g)) (mx (m ((c : Thread nD τ).loc main_arg2)) o g) (mn (m ((c : Thread nD τ).loc main_arg2)) o g)) :=
  congrArg arr2 (funext fun g => funext fun o => join_cols (tile_13 m c) (fun g o => Quant.z ((m ((c : Thread nD τ).loc main_arg3)) (ix2 o g)) ((m ((c : Thread nD τ).loc main_arg4)) (ix2 o g)) (mx (m ((c : Thread nD τ).loc main_arg2)) o g) (mn (m ((c : Thread nD τ).loc main_arg2)) o g)) (fun _ _ _ => rfl) g o)

variable (m' : (ℓ : Loc Cert.ReferenceIdeal.nD Cert.ReferenceIdeal.τ Cert.ReferenceIdeal.sig) → Buf (Elt Ideal) ℓ)
  (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))

include h0 h1 h2 h3 h4 h5 in
/-- The reference's gradients in the upper parameter are the kernel's. -/
theorem same_8 : (Cert.Ref.ref_6 m' c : Vec Ideal S6912x20 .f32) = transpose S6912x20 [1, 0] (res_8 m c) transposes_S20x6912_S6912x20_1_0 := by
  rw [value_8, transpose_arr2]
  unfold Cert.Ref.ref_6
  rw [h0, h1, h2, h3, h4, h5]

include h0 h1 h2 h3 h4 h5 in
/-- The reference's gradients in the lower parameter are the kernel's. -/
theorem same_9 : (Cert.Ref.ref_7 m' c : Vec Ideal S6912x20 .f32) = transpose S6912x20 [1, 0] (res_9 m c) transposes_S20x6912_S6912x20_1_0 := by
  rw [value_9, transpose_arr2]
  unfold Cert.Ref.ref_7
  rw [h0, h1, h2, h3, h4, h5]

include h0 h1 h2 h3 h4 h5 in
/-- The reference's loss is the kernel's. -/
theorem same_10 : (shapeCast S_ (Cert.Ref.ref_8 m' c) Cert.ReferenceIdeal.Gen.shapeCasts_S1x1_S_ : Vec Ideal S_ .f32)
    = shapeCast S_ (res_10 m c) shapeCasts_S1x1_S_ := by
  rw [value_10]
  unfold Cert.Ref.ref_8
  rw [h0, h1, h2, h3, h4, h5]

include h2 h3 h4 in
/-- The reference's codes are the kernel's. -/
theorem same_11 : (Cert.Ref.ref_9 m' c : Vec Ideal S6912x2560 .i8) = res_11 m c := by
  rw [value_11]
  unfold Cert.Ref.ref_9
  rw [h2, h3, h4]

include h2 h3 h4 in
/-- The reference's steps are the kernel's. -/
theorem same_12 : (Cert.Ref.ref_10 m' c : Vec Ideal S6912x20 .f32) = transpose S6912x20 [1, 0] (res_12 m c) transposes_S20x6912_S6912x20_1_0 := by
  rw [value_12, transpose_arr2]
  unfold Cert.Ref.ref_10
  rw [h2, h3, h4]

include h2 h3 h4 in
/-- The reference's zero points are the kernel's. -/
theorem same_13 : (Cert.Ref.ref_11 m' c : Vec Ideal S6912x20 .f32) = transpose S6912x20 [1, 0] (res_13 m c) transposes_S20x6912_S6912x20_1_0 := by
  rw [value_13, transpose_arr2]
  unfold Cert.Ref.ref_11
  rw [h2, h3, h4]

end Cert.Equation

end
-- ==== Proof.lean ====
/- The certificate: the three programs run, end quiescent and keep their arguments; the idealized kernel is the kernel
   with its formats read as exact numbers; and over exact numbers the kernel's six results are the reference's six
   results, for all arguments.  The value claim is put together from `Proof/Run.lean` (the kernel's run and its
   results), `Proof/RefRun.lean` (the reference's) and `Proof/Results.lean` (these results are equal). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.RefRun
public import proofs.«01_k».proof.Proof.Results
public import Idealize.ShloMosaic.Adequacy
public import Idealize.ShloMosaic.Init

@[expose] public section

noncomputable section

namespace Cert.Proof

open Idealize.ShloMosaic Idealize.SL.Sem Cert.Sweep Cert.Equation

/-- Over exact numbers the kernel's six results are the reference's. -/
theorem value : Cert.algebraic_KernelIdeal_ReferenceIdeal (hKernelIdeal := Cert.KernelIdeal.Gen.facts) (hReferenceIdeal := Cert.ReferenceIdeal.Gen.facts) := by
  intro m g m' g' _ hargs
  refine ⟨fun c => transpose Cert.KernelIdeal.S6912x20 [1, 0] (res_8 m c) Cert.KernelIdeal.Gen.transposes_S20x6912_S6912x20_1_0,
    fun c => transpose Cert.KernelIdeal.S6912x20 [1, 0] (res_9 m c) Cert.KernelIdeal.Gen.transposes_S20x6912_S6912x20_1_0,
    fun c => shapeCast Cert.KernelIdeal.S_ (res_10 m c) Cert.KernelIdeal.Gen.shapeCasts_S1x1_S_,
    fun c => res_11 m c,
    fun c => transpose Cert.KernelIdeal.S6912x20 [1, 0] (res_12 m c) Cert.KernelIdeal.Gen.transposes_S20x6912_S6912x20_1_0,
    fun c => transpose Cert.KernelIdeal.S6912x20 [1, 0] (res_13 m c) Cert.KernelIdeal.Gen.transposes_S20x6912_S6912x20_1_0, Cert.Sweep.run m g, ?_⟩
  refine (θ_run _ _ _).mono (fun r h c => ?_) (Cert.Ref.run m' g')
  obtain ⟨r0, r1, r2, r3, r4, r5, kept⟩ := h c
  obtain ⟨h0, h1, h2, h3, h4, h5⟩ := hargs c
  exact ⟨r0.trans (same_8 m c m' h0 h1 h2 h3 h4 h5), r1.trans (same_9 m c m' h0 h1 h2 h3 h4 h5),
    r2.trans (same_10 m c m' h0 h1 h2 h3 h4 h5), r3.trans (same_11 m c m' h2 h3 h4),
    r4.trans (same_12 m c m' h2 h3 h4), r5.trans (same_13 m c m' h2 h3 h4), kept⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, value⟩

end Cert.Proof

end
